-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_logits [hPre_finite_logits : Cert.Pre_finite_logits.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_logits.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_logits [hPre_finite_logits : Cert.Pre_finite_logits.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_logits.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_tokens [hPre_finite_tokens : Cert.Pre_finite_tokens.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_tokens.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_tokens [hPre_finite_tokens : Cert.Pre_finite_tokens.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_tokens.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_logits [hKernel2Ideal : Cert.Kernel2Ideal.Facts] [hPre_finite_logits : Cert.Pre_finite_logits.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_logits m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_logits [hReference2Ideal : Cert.Reference2Ideal.Facts] [hPre_finite_logits : Cert.Pre_finite_logits.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_logits m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_tokens [hKernel3Ideal : Cert.Kernel3Ideal.Facts] [hPre_finite_tokens : Cert.Pre_finite_tokens.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_tokens m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_tokens [hReference3Ideal : Cert.Reference3Ideal.Facts] [hPre_finite_tokens : Cert.Pre_finite_tokens.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_tokens m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite_logits [hKernel2Ideal : Cert.Kernel2Ideal.Facts] [hReference2Ideal : Cert.Reference2Ideal.Facts] [hPre_finite_logits : Cert.Pre_finite_logits.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_logits m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)) (v4 : (c : Dev Cert.Kernel2Ideal.nD) → Buf (Elt Ideal) ((c.tc : Thread Cert.Kernel2Ideal.nD Cert.Kernel2Ideal.τ).loc Cert.Kernel2Ideal.main_v6_4)) (v5 : (c : Dev Cert.Kernel2Ideal.nD) → Buf (Elt Ideal) ((c.tc : Thread Cert.Kernel2Ideal.nD Cert.Kernel2Ideal.τ).loc Cert.Kernel2Ideal.main_v6_5)) (v6 : (c : Dev Cert.Kernel2Ideal.nD) → Buf (Elt Ideal) ((c.tc : Thread Cert.Kernel2Ideal.nD Cert.Kernel2Ideal.τ).loc Cert.Kernel2Ideal.main_v6_6)) (v7 : (c : Dev Cert.Kernel2Ideal.nD) → Buf (Elt Ideal) ((c.tc : Thread Cert.Kernel2Ideal.nD Cert.Kernel2Ideal.τ).loc Cert.Kernel2Ideal.main_v6_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_v6_4) = v4 c
          ∧ r.2.mem ((c.tc : Thread Cert.Kernel2Ideal.nD Cert.Kernel2Ideal.τ).loc Cert.Kernel2Ideal.main_v6_5) = v5 c
          ∧ r.2.mem ((c.tc : Thread Cert.Kernel2Ideal.nD Cert.Kernel2Ideal.τ).loc Cert.Kernel2Ideal.main_v6_6) = v6 c
          ∧ r.2.mem ((c.tc : Thread Cert.Kernel2Ideal.nD Cert.Kernel2Ideal.τ).loc Cert.Kernel2Ideal.main_v6_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v68) = v3 c
          ∧ r.2.mem ((c.tc : Thread Cert.Reference2Ideal.nD Cert.Reference2Ideal.τ).loc Cert.Reference2Ideal.main_v70) = v4 c
          ∧ r.2.mem ((c.tc : Thread Cert.Reference2Ideal.nD Cert.Reference2Ideal.τ).loc Cert.Reference2Ideal.main_v72) = v5 c
          ∧ r.2.mem ((c.tc : Thread Cert.Reference2Ideal.nD Cert.Reference2Ideal.τ).loc Cert.Reference2Ideal.main_v36) = v6 c
          ∧ r.2.mem ((c.tc : Thread Cert.Reference2Ideal.nD Cert.Reference2Ideal.τ).loc Cert.Reference2Ideal.main_v37) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_tokens [hKernel3Ideal : Cert.Kernel3Ideal.Facts] [hReference3Ideal : Cert.Reference3Ideal.Facts] [hPre_finite_tokens : Cert.Pre_finite_tokens.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_tokens m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts) (hPre_finite_tokens : Cert.Pre_finite_tokens.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_logits (hKernel2Ideal := hKernel2Ideal) (hPre_finite_logits := hPre_finite_logits)
    ∧ quiescent_Reference2Ideal (hReference2Ideal := hReference2Ideal)
    ∧ quiescent_Reference2Ideal_pre_finite_logits (hReference2Ideal := hReference2Ideal) (hPre_finite_logits := hPre_finite_logits)
    ∧ quiescent_Kernel3 (hKernel3 := hKernel3)
    ∧ quiescent_Kernel3Ideal (hKernel3Ideal := hKernel3Ideal)
    ∧ quiescent_Kernel3Ideal_pre_finite_tokens (hKernel3Ideal := hKernel3Ideal) (hPre_finite_tokens := hPre_finite_tokens)
    ∧ quiescent_Reference3Ideal (hReference3Ideal := hReference3Ideal)
    ∧ quiescent_Reference3Ideal_pre_finite_tokens (hReference3Ideal := hReference3Ideal) (hPre_finite_tokens := hPre_finite_tokens)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_logits (hKernel2Ideal := hKernel2Ideal) (hReference2Ideal := hReference2Ideal) (hPre_finite_logits := hPre_finite_logits)
    ∧ preserves_Kernel3_Kernel3Ideal
    ∧ algebraic_Kernel3Ideal_Reference3Ideal_pre_finite_tokens (hKernel3Ideal := hKernel3Ideal) (hReference3Ideal := hReference3Ideal) (hPre_finite_tokens := hPre_finite_tokens)
    ∧ preserves_Kernel4_Kernel4Ideal
    ∧ algebraic_Kernel4Ideal_Reference4Ideal (hKernel4Ideal := hKernel4Ideal) (hReference4Ideal := hReference4Ideal)
-- ==== Pre_finite_logits.lean ====
abbrev S8x4096x1024 : Shape := ⟨3, ![8, 4096, 1024]⟩
abbrev S8x6144 : Shape := ⟨2, ![8, 6144]⟩
abbrev S1x1024 : Shape := ⟨2, ![1, 1024]⟩
abbrev S1x1024x3584 : Shape := ⟨3, ![1, 1024, 3584]⟩
abbrev S2x512 : Shape := ⟨2, ![2, 512]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S8x4096x1024 .f32) (main_arg1 : FVec F S8x6144 .f32) (main_arg2 : FVec F S1x1024 .f32) (main_arg3 : FVec F S1x1024x3584 .f32) (main_arg4 : FVec F S2x512 .f32) : IVec S2x512 1 :=
  let main_v0 : FVec F S2x512 .f32 := Host.absf main_arg4
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Pre_finite_tokens.lean ====
abbrev S8x4096x512 : Shape := ⟨3, ![8, 4096, 512]⟩
abbrev S1x128 : Shape := ⟨2, ![1, 128]⟩
abbrev S_ : Shape := ⟨0, ![]⟩

class Facts : Prop where
  bcast_S_S8x4096x512 : S_.BroadcastsInDim S8x4096x512 (![] : Fin 0 → Fin S8x4096x512.rank)

variable [Facts]

def fn {F : FTy → Type} [FloatOps F] (main_arg0 : FVec F S8x4096x512 .bf16) (main_arg1 : FVec F S8x4096x512 .bf16) (main_arg2 : FVec F S8x4096x512 .f32) (main_arg3 : FVec F S8x4096x512 .bf16) (main_arg4 : FVec F S8x4096x512 .bf16) (main_arg5 : FVec F S1x128 .f32) : IVec S8x4096x512 1 :=
  let main_v0 : FVec F S8x4096x512 .bf16 := Host.absf main_arg0
  let main_cst : FVec F S_ .bf16 := constant S_ .bf16 0x7F80#16
  let main_v1 : FVec F S8x4096x512 .bf16 := broadcastInDim S8x4096x512 ![] bcast_S_S8x4096x512 main_cst
  let main_v2 : IVec S8x4096x512 1 := cmpf .olt main_v0 main_v1
  let main_v3 : FVec F S8x4096x512 .bf16 := Host.absf main_arg1
  let main_cst_0 : FVec F S_ .bf16 := constant S_ .bf16 0x7F80#16
  let main_v4 : FVec F S8x4096x512 .bf16 := broadcastInDim S8x4096x512 ![] bcast_S_S8x4096x512 main_cst_0
  let main_v5 : IVec S8x4096x512 1 := cmpf .olt main_v3 main_v4
  let main_v6 : IVec S8x4096x512 1 := andi main_v2 main_v5
  let main_v7 : FVec F S8x4096x512 .f32 := Host.absf main_arg2
  let main_cst_1 : FVec F S_ .f32 := constant S_ .f32 0x7F800000#32
  let main_v8 : FVec F S8x4096x512 .f32 := broadcastInDim S8x4096x512 ![] bcast_S_S8x4096x512 main_cst_1
  let main_v9 : IVec S8x4096x512 1 := cmpf .olt main_v7 main_v8
  let main_v10 : IVec S8x4096x512 1 := andi main_v6 main_v9
  let main_v11 : FVec F S8x4096x512 .bf16 := Host.absf main_arg3
  let main_cst_2 : FVec F S_ .bf16 := constant S_ .bf16 0x7F80#16
  let main_v12 : FVec F S8x4096x512 .bf16 := broadcastInDim S8x4096x512 ![] bcast_S_S8x4096x512 main_cst_2
  let main_v13 : IVec S8x4096x512 1 := cmpf .olt main_v11 main_v12
  let main_v14 : IVec S8x4096x512 1 := andi main_v10 main_v13
  main_v14
-- ==== Kernel.lean ====
abbrev S8x4096x1024 : Shape := ⟨3, ![8, 4096, 1024]⟩
abbrev S8x4096x512 : Shape := ⟨3, ![8, 4096, 512]⟩
abbrev S8x6144 : Shape := ⟨2, ![8, 6144]⟩
abbrev S1x512 : Shape := ⟨2, ![1, 512]⟩
abbrev S1x1024 : Shape := ⟨2, ![1, 1024]⟩
abbrev S1024 : Shape := ⟨1, ![1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S32768x512 : Shape := ⟨2, ![32768, 512]⟩
abbrev S8x1x6144 : Shape := ⟨3, ![8, 1, 6144]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S1x1x1024 : Shape := ⟨3, ![1, 1, 1024]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 26
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x6144, .f32⟩
  | .hbm, ⟨4, _⟩ => ⟨S1x512, .f32⟩
  | .hbm, ⟨5, _⟩ => ⟨S1x1024, .f32⟩
  | .hbm, ⟨6, _⟩ => ⟨S1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S32768x1024, .f32⟩
  | .hbm, ⟨11, _⟩ => ⟨S32768x512, .bf16⟩
  | .hbm, ⟨12, _⟩ => ⟨S32768x512, .bf16⟩
  | .hbm, ⟨13, _⟩ => ⟨S8x1x6144, .f32⟩
  | .hbm, ⟨14, _⟩ => ⟨S512, .f32⟩
  | .hbm, ⟨15, _⟩ => ⟨S1024, .f32⟩
  | .hbm, ⟨16, _⟩ => ⟨S1024x1024, .f32⟩
  | .hbm, ⟨17, _⟩ => ⟨S1024x1024, .bf16⟩
  | .hbm, ⟨18, _⟩ => ⟨S1024x5632, .f32⟩
  | .hbm, ⟨19, _⟩ => ⟨S1024x5632, .bf16⟩
  | .hbm, ⟨20, _⟩ => ⟨S2816x1024, .f32⟩
  | .hbm, ⟨21, _⟩ => ⟨S2816x1024, .bf16⟩
  | .hbm, ⟨22, _⟩ => ⟨S1x512, .f32⟩
  | .hbm, ⟨23, _⟩ => ⟨S1x1024, .f32⟩
  | .hbm, ⟨24, _⟩ => ⟨S1x1024, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x5632, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8x4096x1024 : Shape := ⟨3, ![8, 4096, 1024]⟩
abbrev S8x4096x512 : Shape := ⟨3, ![8, 4096, 512]⟩
abbrev S8x6144 : Shape := ⟨2, ![8, 6144]⟩
abbrev S1x512 : Shape := ⟨2, ![1, 512]⟩
abbrev S1x1024 : Shape := ⟨2, ![1, 1024]⟩
abbrev S1024 : Shape := ⟨1, ![1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S8x1024 : Shape := ⟨2, ![8, 1024]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x1x1024 : Shape := ⟨3, ![8, 1, 1024]⟩
abbrev S1024x1024 : Shape := ⟨2, ![1024, 1024]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x6144, .f32⟩
  | .hbm, ⟨4, _⟩ => ⟨S1x512, .f32⟩
  | .hbm, ⟨5, _⟩ => ⟨S1x1024, .f32⟩
  | .hbm, ⟨6, _⟩ => ⟨S1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x4096x512, .f32⟩
  | .hbm, ⟨17, _⟩ => ⟨S8x4096x512, .f32⟩
  | .hbm, ⟨18, _⟩ => ⟨S512, .f32⟩
  | .hbm, ⟨19, _⟩ => ⟨S8x4096x512, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x512, .f32⟩
  | .hbm, ⟨31, _⟩ => ⟨S8x4096x512, .f32⟩
  | .hbm, ⟨32, _⟩ => ⟨S1x1x512, .f32⟩
  | .hbm, ⟨33, _⟩ => ⟨S8x4096x512, .f32⟩
  | .hbm, ⟨34, _⟩ => ⟨S8x4096x512, .f32⟩
  | .hbm, ⟨35, _⟩ => ⟨S8x4096x1024, .f32⟩
  | .hbm, ⟨36, _⟩ => ⟨S8x1x1024, .f32⟩
  | .hbm, ⟨37, _⟩ => ⟨S1024x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S1024, .f32⟩
  | .hbm, ⟨43, _⟩ => ⟨S8x4096x1024, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S8x1x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S1024x5632, .f32⟩
  | .hbm, ⟨69, _⟩ => ⟨S8x4096x5632, .f32⟩
  | .hbm, ⟨70, _⟩ => ⟨S8x4096x2816, .f32⟩
  | .hbm, ⟨71, _⟩ => ⟨S8x4096x2816, .f32⟩
  | .hbm, ⟨72, _⟩ => ⟨S8x1x1024, .f32⟩
  | .hbm, ⟨73, _⟩ => ⟨S8x4096x2816, .f32⟩
  | .hbm, ⟨74, _⟩ => ⟨S8x4096x2816, .f32⟩
  | .hbm, ⟨75, _⟩ => ⟨S_, .f32⟩
  | .hbm, ⟨76, _⟩ => ⟨S8x4096x2816, .f32⟩
  | .hbm, ⟨77, _⟩ => ⟨S8x4096x2816, .f32⟩
  | .hbm, ⟨78, _⟩ => ⟨S_, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S2816x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1, .f32⟩
  | .hbm, ⟨99, _⟩ => ⟨S8x4096x1024, .f32⟩
  | .hbm, ⟨100, _⟩ => ⟨S8x4096x1024, .f32⟩
  | .hbm, ⟨101, _⟩ => ⟨S1x1x1024, .f32⟩
  | .hbm, ⟨102, _⟩ => ⟨S8x4096x1024, .f32⟩
  | .hbm, ⟨103, _⟩ => ⟨S8x4096x1024, .f32⟩
  | .hbm, ⟨104, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_6 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6144 : Shape := ⟨2, ![8, 6144]⟩
abbrev S1x1024 : Shape := ⟨2, ![1, 1024]⟩
abbrev S1x1024x3584 : Shape := ⟨3, ![1, 1024, 3584]⟩
abbrev S2x512 : Shape := ⟨2, ![2, 512]⟩
abbrev S32768x1024 : Shape := ⟨2, ![32768, 1024]⟩
abbrev S8x1x6144 : Shape := ⟨3, ![8, 1, 6144]⟩
abbrev S1024 : Shape := ⟨1, ![1024]⟩
abbrev S1024x3584 : Shape := ⟨2, ![1024, 3584]⟩
abbrev S32768x512 : Shape := ⟨2, ![32768, 512]⟩
abbrev S512x1024 : Shape := ⟨2, ![512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩

abbrev nBuf : Space → Nat
  | .hbm => 19
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1x1024, .f32⟩
  | .hbm, ⟨3, _⟩ => ⟨S1x1024x3584, .f32⟩
  | .hbm, ⟨4, _⟩ => ⟨S2x512, .f32⟩
  | .hbm, ⟨5, _⟩ => ⟨S32768x1024, .f32⟩
  | .hbm, ⟨6, _⟩ => ⟨S8x1x6144, .f32⟩
  | .hbm, ⟨7, _⟩ => ⟨S1024, .f32⟩
  | .hbm, ⟨8, _⟩ => ⟨S1024x3584, .f32⟩
  | .hbm, ⟨9, _⟩ => ⟨S1024x3584, .bf16⟩
  | .hbm, ⟨10, _⟩ => ⟨S1x1024, .f32⟩
  | .hbm, ⟨11, _⟩ => ⟨S32768x512, .bf16⟩
  | .hbm, ⟨12, _⟩ => ⟨S32768x512, .bf16⟩
  | .hbm, ⟨13, _⟩ => ⟨S32768x512, .f32⟩
  | .hbm, ⟨14, _⟩ => ⟨S32768x512, .bf16⟩
  | .hbm, ⟨15, _⟩ => ⟨S32768x512, .bf16⟩
  | .hbm, ⟨16, _⟩ => ⟨S32768x512, .f32⟩
  | .hbm, ⟨17, _⟩ => ⟨S32768x512, .f32⟩
  | .hbm, ⟨18, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S2x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev main_v6_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x4096x1024 : Shape := ⟨3, ![8, 4096, 1024]⟩
abbrev S8x6144 : Shape := ⟨2, ![8, 6144]⟩
abbrev S1x1024 : Shape := ⟨2, ![1, 1024]⟩
abbrev S1x1024x3584 : Shape := ⟨3, ![1, 1024, 3584]⟩
abbrev S2x512 : Shape := ⟨2, ![2, 512]⟩
abbrev S8x1024 : Shape := ⟨2, ![8, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1024x3584 : Shape := ⟨2, ![1024, 3584]⟩
abbrev S8x4096x3584 : Shape := ⟨3, ![8, 4096, 3584]⟩
abbrev S32768x3584 : Shape := ⟨2, ![32768, 3584]⟩
abbrev S32768x512 : Shape := ⟨2, ![32768, 512]⟩
abbrev S512 : Shape := ⟨1, ![512]⟩
abbrev S1x512 : Shape := ⟨2, ![1, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1x1024, .f32⟩
  | .hbm, ⟨3, _⟩ => ⟨S1x1024x3584, .f32⟩
  | .hbm, ⟨4, _⟩ => ⟨S2x512, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S1024x3584, .f32⟩
  | .hbm, ⟨38, _⟩ => ⟨S8x4096x3584, .f32⟩
  | .hbm, ⟨39, _⟩ => ⟨S32768x3584, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S1x512, .f32⟩
  | .hbm, ⟨53, _⟩ => ⟨S2x512, .f32⟩
  | .hbm, ⟨54, _⟩ => ⟨S2x512, .f32⟩
  | .hbm, ⟨55, _⟩ => ⟨S2x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S2x512, .f32⟩
  | .hbm, ⟨60, _⟩ => ⟨S2x512, .f32⟩
  | .hbm, ⟨61, _⟩ => ⟨S1x512, .f32⟩
  | .hbm, ⟨62, _⟩ => ⟨S_, .f32⟩
  | .hbm, ⟨63, _⟩ => ⟨S1x512, .f32⟩
  | .hbm, ⟨64, _⟩ => ⟨S1x512, .f32⟩
  | .hbm, ⟨65, _⟩ => ⟨S32768x512, .f32⟩
  | .hbm, ⟨66, _⟩ => ⟨S32768x512, .f32⟩
  | .hbm, ⟨67, _⟩ => ⟨S_, .f32⟩
  | .hbm, ⟨68, _⟩ => ⟨S32768x512, .f32⟩
  | .hbm, ⟨69, _⟩ => ⟨S32768x512, .f32⟩
  | .hbm, ⟨70, _⟩ => ⟨S_, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S32768x512, .f32⟩
  | .hbm, ⟨76, _⟩ => ⟨S32768x512, .f32⟩
  | .hbm, ⟨77, _⟩ => ⟨S32768x512, .f32⟩
  | .hbm, ⟨78, _⟩ => ⟨S32768x512, .f32⟩
  | .hbm, ⟨79, _⟩ => ⟨S_, .f32⟩
  | .hbm, ⟨80, _⟩ => ⟨S32768x512, .f32⟩
  | .hbm, ⟨81, _⟩ => ⟨S32768x512, .f32⟩
  | .hbm, ⟨82, _⟩ => ⟨S_, .f32⟩
  | .hbm, ⟨83, _⟩ => ⟨S32768x512, .f32⟩
  | .hbm, ⟨84, _⟩ => ⟨S32768x512, .f32⟩
  | .hbm, ⟨85, _⟩ => ⟨S32768x512, .f32⟩
  | .hbm, ⟨86, _⟩ => ⟨S32768x512, .bf16⟩
  | .hbm, ⟨87, _⟩ => ⟨S_, .f32⟩
  | .hbm, ⟨88, _⟩ => ⟨S32768x512, .f32⟩
  | .hbm, ⟨89, _⟩ => ⟨S32768x512, .f32⟩
  | .hbm, ⟨90, _⟩ => ⟨S32768x512, .bf16⟩
  | .hbm, ⟨91, _⟩ => ⟨S32768x512, .f32⟩
  | .hbm, ⟨92, _⟩ => ⟨S32768x512, .bf16⟩
  | .hbm, ⟨93, _⟩ => ⟨S32768x512, .f32⟩
  | .hbm, ⟨94, _⟩ => ⟨S32768x512, .f32⟩
  | .hbm, ⟨95, _⟩ => ⟨S_, .f32⟩
  | .hbm, ⟨96, _⟩ => ⟨S32768x512, .f32⟩
  | .hbm, ⟨97, _⟩ => ⟨S32768x512, .f32⟩
  | .hbm, ⟨98, _⟩ => ⟨S_, .f32⟩
  | .hbm, ⟨99, _⟩ => ⟨S32768x512, .f32⟩
  | .hbm, ⟨100, _⟩ => ⟨S32768x512, .f32⟩
  | .hbm, ⟨101, _⟩ => ⟨S32768x512, .f32⟩
  | .hbm, ⟨102, _⟩ => ⟨S32768x512, .bf16⟩
  | .hbm, ⟨103, _⟩ => ⟨S_, .f32⟩
  | .hbm, ⟨104, _⟩ => ⟨S32768x512, .f32⟩
  | .hbm, ⟨105, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Kernel3.lean ====
abbrev S8x4096x512 : Shape := ⟨3, ![8, 4096, 512]⟩
abbrev S1x128 : Shape := ⟨2, ![1, 128]⟩
abbrev S1152x128 : Shape := ⟨2, ![1152, 128]⟩
abbrev S128 : Shape := ⟨1, ![128]⟩
abbrev S1x128x512 : Shape := ⟨3, ![1, 128, 512]⟩
abbrev S4x128x128 : Shape := ⟨3, ![4, 128, 128]⟩
abbrev S128x512 : Shape := ⟨2, ![128, 512]⟩
abbrev S128x1024 : Shape := ⟨2, ![128, 1024]⟩
abbrev S128x128 : Shape := ⟨2, ![128, 128]⟩
abbrev S1x512 : Shape := ⟨2, ![1, 512]⟩
abbrev S1x128x128 : Shape := ⟨3, ![1, 128, 128]⟩
abbrev S128x1 : Shape := ⟨2, ![128, 1]⟩

abbrev nBuf : Space → Nat
  | .hbm => 10
  | .vmem => 15
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .f32⟩
  | .hbm, ⟨3, _⟩ => ⟨S8x4096x512, .bf16⟩
  | .hbm, ⟨4, _⟩ => ⟨S8x4096x512, .bf16⟩
  | .hbm, ⟨5, _⟩ => ⟨S1x128, .f32⟩
  | .hbm, ⟨6, _⟩ => ⟨S1152x128, .bf16⟩
  | .hbm, ⟨7, _⟩ => ⟨S128, .f32⟩
  | .hbm, ⟨8, _⟩ => ⟨S1x128, .f32⟩
  | .hbm, ⟨9, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .f32⟩
  | .local _ .vmem, ⟨5, _⟩ => ⟨S1x128x512, .f32⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1152x128, .bf16⟩
  | .local _ .vmem, ⟨11, _⟩ => ⟨S1x128, .f32⟩
  | .local _ .vmem, ⟨12, _⟩ => ⟨S1x128x512, .bf16⟩
  | .local _ .vmem, ⟨13, _⟩ => ⟨S1x128x512, .bf16⟩
  | .local _ .vmem, ⟨14, _⟩ => ⟨S4x128x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1152x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x512 : Shape := ⟨3, ![8, 4096, 512]⟩
abbrev S1x128 : Shape := ⟨2, ![1, 128]⟩
abbrev S8x4096x4x128 : Shape := ⟨4, ![8, 4096, 4, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x128x4096 : Shape := ⟨4, ![8, 4, 128, 4096]⟩
abbrev S8x4096x1x4x128 : Shape := ⟨5, ![8, 4096, 1, 4, 128]⟩
abbrev S8x1x4096x4x128 : Shape := ⟨5, ![8, 1, 4096, 4, 128]⟩
abbrev S8x4096x4096x4x128 : Shape := ⟨5, ![8, 4096, 4096, 4, 128]⟩
abbrev S1x4096x4096x1x1 : Shape := ⟨5, ![1, 4096, 4096, 1, 1]⟩
abbrev S_ : Shape := ⟨0, ![]⟩
abbrev S8x4096x4096x4 : Shape := ⟨4, ![8, 4096, 4096, 4]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .f32⟩
  | .hbm, ⟨3, _⟩ => ⟨S8x4096x512, .bf16⟩
  | .hbm, ⟨4, _⟩ => ⟨S8x4096x512, .bf16⟩
  | .hbm, ⟨5, _⟩ => ⟨S1x128, .f32⟩
  | .hbm, ⟨6, _⟩ => ⟨S8x4096x512, .f32⟩
  | .hbm, ⟨7, _⟩ => ⟨S8x4096x4x128, .f32⟩
  | .hbm, ⟨8, _⟩ => ⟨S8x4096x512, .f32⟩
  | .hbm, ⟨9, _⟩ => ⟨S8x4096x4x128, .f32⟩
  | .hbm, ⟨10, _⟩ => ⟨S8x4096x4x128, .f32⟩
  | .hbm, ⟨11, _⟩ => ⟨S8x4096x512, .f32⟩
  | .hbm, ⟨12, _⟩ => ⟨S8x4096x4x128, .f32⟩
  | .hbm, ⟨13, _⟩ => ⟨S8x4096x512, .f32⟩
  | .hbm, ⟨14, _⟩ => ⟨S8x4096x4x128, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .f32⟩
  | .hbm, ⟨22, _⟩ => ⟨S8x4x128x4096, .f32⟩
  | .hbm, ⟨23, _⟩ => ⟨S8x4096x4x128, .f32⟩
  | .hbm, ⟨24, _⟩ => ⟨S8x4096x1x4x128, .f32⟩
  | .hbm, ⟨25, _⟩ => ⟨S8x1x4096x4x128, .f32⟩
  | .hbm, ⟨26, _⟩ => ⟨S8x4096x4096x4x128, .f32⟩
  | .hbm, ⟨27, _⟩ => ⟨S8x4096x4096x4x128, .f32⟩
  | .hbm, ⟨28, _⟩ => ⟨S8x4096x4096x4x128, .f32⟩
  | .hbm, ⟨29, _⟩ => ⟨S1x4096x4096x1x1, .i1⟩
  | .hbm, ⟨30, _⟩ => ⟨S8x4096x4096x4x128, .f32⟩
  | .hbm, ⟨31, _⟩ => ⟨S_, .f32⟩
  | .hbm, ⟨32, _⟩ => ⟨S_, .f32⟩
  | .hbm, ⟨33, _⟩ => ⟨S8x4096x4096x4x128, .i1⟩
  | .hbm, ⟨34, _⟩ => ⟨S8x4096x4096x4x128, .f32⟩
  | .hbm, ⟨35, _⟩ => ⟨S8x4096x4096x4x128, .f32⟩
  | .hbm, ⟨36, _⟩ => ⟨S8x4096x1x4x128, .f32⟩
  | .hbm, ⟨37, _⟩ => ⟨S8x1x4096x4x128, .f32⟩
  | .hbm, ⟨38, _⟩ => ⟨S8x4096x4096x4x128, .f32⟩
  | .hbm, ⟨39, _⟩ => ⟨S8x4096x4096x4x128, .f32⟩
  | .hbm, ⟨40, _⟩ => ⟨S8x4096x4096x4x128, .f32⟩
  | .hbm, ⟨41, _⟩ => ⟨S8x4096x4096x4x128, .f32⟩
  | .hbm, ⟨42, _⟩ => ⟨S_, .f32⟩
  | .hbm, ⟨43, _⟩ => ⟨S8x4096x4096x4, .f32⟩
  | .hbm, ⟨44, _⟩ => ⟨S8x4x128x4096, .f32⟩
  | .hbm, ⟨45, _⟩ => ⟨S8x4096x4x128, .f32⟩
  | .hbm, ⟨46, _⟩ => ⟨S8x4096x4x128, .f32⟩
  | .hbm, ⟨47, _⟩ => ⟨S_, .f32⟩
  | .hbm, ⟨48, _⟩ => ⟨S8x4096x4, .f32⟩
  | .hbm, ⟨49, _⟩ => ⟨S8x4096x4x1, .f32⟩
  | .hbm, ⟨50, _⟩ => ⟨S_, .f32⟩
  | .hbm, ⟨51, _⟩ => ⟨S8x4096x4x1, .f32⟩
  | .hbm, ⟨52, _⟩ => ⟨S8x4096x4x1, .f32⟩
  | .hbm, ⟨53, _⟩ => ⟨S_, .f32⟩
  | .hbm, ⟨54, _⟩ => ⟨S8x4096x4x1, .f32⟩
  | .hbm, ⟨55, _⟩ => ⟨S8x4096x4x1, .f32⟩
  | .hbm, ⟨56, _⟩ => ⟨S8x4096x4x1, .f32⟩
  | .hbm, ⟨57, _⟩ => ⟨S8x4096x4x128, .f32⟩
  | .hbm, ⟨58, _⟩ => ⟨S8x4096x4x128, .f32⟩
  | .hbm, ⟨59, _⟩ => ⟨S128, .f32⟩
  | .hbm, ⟨60, _⟩ => ⟨S1x1x1x128, .f32⟩
  | .hbm, ⟨61, _⟩ => ⟨S8x4096x4x128, .f32⟩
  | .hbm, ⟨62, _⟩ => ⟨S8x4096x4x128, .f32⟩
  | .hbm, ⟨63, _⟩ => ⟨S8x4096x4x128, .f32⟩
  | .hbm, ⟨64, _⟩ => ⟨S8x4096x512, .f32⟩
  | .hbm, ⟨65, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel4.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.TailRow.lean ====
/- The block's tail on ONE token, as functions of extended reals: what both programs compute for a row of the output.
   Nothing here mentions a program; the kernel's and the reference's modules each prove that their arrays, read at an index,
   are these functions of the argument rows. -/
module

public import Idealize.ShloMosaic.PureOps.Ideal.Laws
public import Idealize.ShloMosaic.Lib.ValueIdx

@[expose] public section

set_option maxRecDepth 16384

noncomputable section

namespace Cert.TailRow

open Idealize.ShloMosaic
open scoped BigOperators

/-- The literal `1e-6` of the norms. -/
abbrev cEps : EReal := Ideal.ofBits .f32 0x358637BD#32
/-- The literal 512. -/
abbrev c512 : EReal := Ideal.ofBits .f32 0x44000000#32
/-- The literal 1024. -/
abbrev c1024 : EReal := Ideal.ofBits .f32 0x44800000#32
/-- The literal 1. -/
abbrev cOne : EReal := Ideal.ofBits .f32 0x3F800000#32

/-- The reciprocal root mean square of a row: `rsqrt (Σ vₖ² / c + eps)`. -/
def inv {n : ℕ} (c : EReal) (v : Fin n → EReal) : EReal := Ideal.rsqrt (Ideal.div (∑ k, v k * v k) c + cEps)

/-- The attention row after its norm. -/
def att (a ag : Fin 512 → EReal) (k : Fin 512) : EReal := a k * inv c512 a * ag k

/-- The row of the 1024 mixed channels: the recurrence's 512, then the attention's 512 after their norm. -/
def mixed (h a ag : Fin 512 → EReal) (k : Fin 1024) : EReal :=
  if hk : k.val < 512 then h ⟨k.val, hk⟩ else att a ag ⟨k.val - 512, by omega⟩

/-- The residual row after the output projection, gated. -/
def x1 (x g1 : Fin 1024 → EReal) (h a ag : Fin 512 → EReal) (W : Fin 1024 → Fin 1024 → EReal) (c : Fin 1024) : EReal :=
  x c + g1 c * ∑ k, mixed h a ag k * W k c

/-- The feed-forward's input row: normalised, scaled and shifted. -/
def h2 (y n2 sc sh : Fin 1024 → EReal) (c : Fin 1024) : EReal :=
  y c * inv c1024 y * n2 c * (cOne + sc c) + sh c

/-- The gate product of column `j`. -/
def gate (h : Fin 1024 → EReal) (W : Fin 1024 → Fin 5632 → EReal) (j : Fin 2816) : EReal :=
  ∑ k, h k * W k ⟨j.val, by omega⟩

/-- The up product of column `j`. -/
def up (h : Fin 1024 → EReal) (W : Fin 1024 → Fin 5632 → EReal) (j : Fin 2816) : EReal :=
  ∑ k, h k * W k ⟨2816 + j.val, by omega⟩

/-- The activation of column `j`: `silu(gate) * up`. -/
def act (h : Fin 1024 → EReal) (W : Fin 1024 → Fin 5632 → EReal) (j : Fin 2816) : EReal :=
  gate h W j * Ideal.logistic (gate h W j) * up h W j

/-- The row after the feed-forward, gated. -/
def x2 (y g2 : Fin 1024 → EReal) (p : Fin 2816 → EReal) (D : Fin 2816 → Fin 1024 → EReal) (c : Fin 1024) : EReal :=
  y c + g2 c * ∑ j, p j * D j c

/-- The final norm. -/
def last (y fg : Fin 1024 → EReal) (c : Fin 1024) : EReal := y c * inv c1024 y * fg c

/-- The output row of one token. -/
def out (x g1 sh sc g2 n2 fg : Fin 1024 → EReal) (h a ag : Fin 512 → EReal) (WO : Fin 1024 → Fin 1024 → EReal)
    (WG : Fin 1024 → Fin 5632 → EReal) (WD : Fin 2816 → Fin 1024 → EReal) : Fin 1024 → EReal :=
  last (x2 (x1 x g1 h a ag WO) g2 (act (h2 (x1 x g1 h a ag WO) n2 sc sh) WG) WD) fg

/-- The sum over the 1024 mixed channels is the sum over the first 512 plus the sum over the last 512. -/
theorem sum_mixed (h a ag : Fin 512 → EReal) (w : Fin 1024 → EReal) :
    ∑ k, mixed h a ag k * w k
      = (∑ k : Fin 512, h k * w ⟨k.val, by omega⟩) + ∑ k : Fin 512, att a ag k * w ⟨512 + k.val, by omega⟩ := by
  rw [← Equiv.sum_comp (finSumFinEquiv (m := 512) (n := 512)) (fun k => mixed h a ag k * w k), Fintype.sum_sum_type]
  refine congrArg₂ (· + ·) (Finset.sum_congr rfl fun k _ => ?_) (Finset.sum_congr rfl fun k _ => ?_)
  · have e : (finSumFinEquiv (m := 512) (n := 512)) (Sum.inl k) = (⟨k.val, by omega⟩ : Fin 1024) := rfl
    rw [e]; unfold mixed; rw [dif_pos (show k.val < 512 from k.isLt)]
  · have e : (finSumFinEquiv (m := 512) (n := 512)) (Sum.inr k) = (⟨512 + k.val, by omega⟩ : Fin 1024) := rfl
    rw [e]; unfold mixed; rw [dif_neg (show ¬ 512 + k.val < 512 by omega)]
    have e2 : (⟨512 + k.val - 512, by omega⟩ : Fin 512) = k := Fin.ext (by show 512 + k.val - 512 = k.val; omega)
    rw [e2]

/-- The sum over chunk `i` of 256 columns. -/
def chunk (f : Fin 2816 → EReal) (i : ℕ) (hi : i < 11) : EReal := ∑ j : Fin 256, f ⟨256 * i + j.val, by omega⟩

/-- The sum over the 2816 columns is the sum of its eleven chunks, taken in order from zero. -/
theorem sum_chunks (f : Fin 2816 → EReal) :
    ∑ j, f j = 0 + chunk f 0 (by omega) + chunk f 1 (by omega) + chunk f 2 (by omega) + chunk f 3 (by omega)
      + chunk f 4 (by omega) + chunk f 5 (by omega) + chunk f 6 (by omega) + chunk f 7 (by omega) + chunk f 8 (by omega)
      + chunk f 9 (by omega) + chunk f 10 (by omega) := by
  have e : ∑ j, f j = ∑ i : Fin 11, chunk f i.val i.isLt := by
    rw [← Equiv.sum_comp (finProdFinEquiv (m := 11) (n := 256)) f, Fintype.sum_prod_type]
    refine Finset.sum_congr rfl fun i _ => Finset.sum_congr rfl fun j _ => congrArg f (Fin.ext ?_)
    show j.val + 256 * i.val = 256 * i.val + j.val
    omega
  rw [e]
  simp only [Fin.sum_univ_succ, Fin.sum_univ_zero, add_zero, zero_add, Fin.val_succ, Fin.val_zero, add_assoc]; rfl

end Cert.TailRow

end
-- ==== Proof.TailRef.lean ====
/- The reference's result read at an index: the row functions of `TailRow` of the argument arrays. -/
module

public import proofs.«01_k».proof.Proof.Gen.ReferenceIdeal.Read
public import proofs.«01_k».proof.Proof.TailRow
public import Idealize.ShloMosaic.Lib.IdealHost

@[expose] public section

set_option maxRecDepth 16384

noncomputable section

namespace Cert.TailRef

open Cert.ReferenceIdeal Cert.ReferenceIdeal.Read Idealize.ShloMosaic Idealize.ShloMosaic.ValueIdx Idealize.SL.Sem
open scoped BigOperators

variable (x0 : (⟨S8x4096x1024, .f32⟩ : BufTy).Contents (Elt Ideal)) (x1 : (⟨S8x4096x512, .bf16⟩ : BufTy).Contents (Elt Ideal))
  (x2 : (⟨S8x4096x512, .bf16⟩ : BufTy).Contents (Elt Ideal)) (x3 : (⟨S8x6144, .f32⟩ : BufTy).Contents (Elt Ideal))
  (x4 : (⟨S1x512, .f32⟩ : BufTy).Contents (Elt Ideal)) (x5 : (⟨S1x1024, .f32⟩ : BufTy).Contents (Elt Ideal))
  (x6 : (⟨S1024, .f32⟩ : BufTy).Contents (Elt Ideal)) (x7 : (⟨S1x1024x1024, .f32⟩ : BufTy).Contents (Elt Ideal))
  (x8 : (⟨S1x1024x5632, .f32⟩ : BufTy).Contents (Elt Ideal)) (x9 : (⟨S1x2816x1024, .f32⟩ : BufTy).Contents (Elt Ideal))
  (b : Fin 8) (s : Fin 4096)

/-- Column group `g` of the modulation row of batch entry `b`. -/
abbrev md (g : ℕ) (hg : g < 6) (k : Fin 1024) : EReal := x3 (ix2 b (⟨1024 * g + k.val, by omega⟩ : Fin 6144))

/-- The row of the residual stream after the output projection, of token `(b, s)`. -/
abbrev rX1 : Fin 1024 → EReal :=
  TailRow.x1 (fun k => x0 (ix3 b s k)) (md x3 b 2 (by omega)) (fun k => x1 (ix3 b s k)) (fun k => x2 (ix3 b s k))
    (fun k => x4 (ix2 (0 : Fin 1) k)) (fun k c => x7 (ix3 (0 : Fin 1) k c))

/-- The feed-forward's input row of token `(b, s)`. -/
abbrev rH2 : Fin 1024 → EReal :=
  TailRow.h2 (rX1 x0 x1 x2 x3 x4 x7 b s) (fun k => x5 (ix2 (0 : Fin 1) k)) (md x3 b 4 (by omega)) (md x3 b 3 (by omega))

/-- The activation row of token `(b, s)`. -/
abbrev rAct : Fin 2816 → EReal :=
  TailRow.act (rH2 x0 x1 x2 x3 x4 x5 x7 b s) (fun k c => x8 (ix3 (0 : Fin 1) k c))

/-- The residual row of token `(b, s)` after the feed-forward. -/
abbrev rX2 : Fin 1024 → EReal :=
  TailRow.x2 (rX1 x0 x1 x2 x3 x4 x7 b s) (md x3 b 5 (by omega)) (rAct x0 x1 x2 x3 x4 x5 x7 x8 b s) (fun k c => x9 (ix3 (0 : Fin 1) k c))

/-- The output row of token `(b, s)`. -/
abbrev rOut : Fin 1024 → EReal :=
  TailRow.last (rX2 x0 x1 x2 x3 x4 x5 x7 x8 x9 b s) (fun k => x6 (ix1 k))

/-- Two indices of a one-axis shape with the same coordinate are equal. -/
theorem ext1 {n : ℕ} {x y : (⟨1, ![n]⟩ : Shape).Idx} (h0 : (x 0).val = (y 0).val) : x = y :=
  funext fun a => match a with | ⟨0, _⟩ => Fin.ext h0

/-- Two indices of a two-axis shape with the same coordinates are equal. -/
theorem ext2 {n0 n1 : ℕ} {x y : (⟨2, ![n0, n1]⟩ : Shape).Idx} (h0 : (x 0).val = (y 0).val) (h1 : (x 1).val = (y 1).val) : x = y :=
  funext fun a => match a with | ⟨0, _⟩ => Fin.ext h0 | ⟨1, _⟩ => Fin.ext h1

/-- Two indices of a three-axis shape with the same coordinates are equal. -/
theorem ext3 {n0 n1 n2 : ℕ} {x y : (⟨3, ![n0, n1, n2]⟩ : Shape).Idx} (h0 : (x 0).val = (y 0).val) (h1 : (x 1).val = (y 1).val)
    (h2 : (x 2).val = (y 2).val) : x = y :=
  funext fun a => match a with | ⟨0, _⟩ => Fin.ext h0 | ⟨1, _⟩ => Fin.ext h1 | ⟨2, _⟩ => Fin.ext h2

/-- The reciprocal root mean square of the attention row. -/
theorem v16_apply : val_main_v16 (F := Ideal) x2 (ix3 b s (0 : Fin 1)) = TailRow.inv TailRow.c512 (fun k => x2 (ix3 b s k)) := by
  rw [val_main_v16_apply, val_main_v15_apply, val_main_v13_apply, val_main_v11_apply, val_main_v10_apply]
  simp only [val_main_v9_apply, val_main_v7_apply]
  unfold TailRow.inv
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  exact congrArg (fun i => x2 i * x2 i) (ext3 rfl rfl rfl)

/-- The attention row after its norm. -/
theorem v21_apply (k : Fin 512) : val_main_v21 (F := Ideal) x2 x4 (ix3 b s k)
    = TailRow.att (fun k => x2 (ix3 b s k)) (fun k => x4 (ix2 (0 : Fin 1) k)) k := by
  rw [val_main_v21_apply, val_main_v18_apply, val_main_v7_apply, val_main_v17_apply, val_main_v20_apply, val_main_v19_apply, val_main_v8_apply,
    show idx_main_v17 (ix3 b s k) = ix3 b s (0 : Fin 1) from ext3 rfl rfl rfl, v16_apply]
  unfold TailRow.att
  refine congrArg (x2 (ix3 b s k) * TailRow.inv TailRow.c512 (fun k => x2 (ix3 b s k)) * ·) (congrArg x4 (ext2 rfl ?_))
  exact Nat.mod_eq_of_lt k.isLt

/-- The concatenated row of mixed channels. -/
theorem v22_apply (k : Fin 1024) : val_main_v22 (F := Ideal) x1 x2 x4 (ix3 b s k)
    = TailRow.mixed (fun k => x1 (ix3 b s k)) (fun k => x2 (ix3 b s k)) (fun k => x4 (ix2 (0 : Fin 1) k)) k := by
  unfold val_main_v22 TailRow.mixed
  by_cases hk : k.val < 512
  · rw [dif_pos hk]
    refine (concatenate_pair_apply_left (t := S8x4096x1024) (s₁ := S8x4096x512) (s₂ := S8x4096x512) 2 _ _ _ (ix3 b s k) rfl (ix3 b s (⟨k.val, hk⟩ : Fin 512)) ?_).trans rfl
    exact fun a => match a with | ⟨0, _⟩ => rfl | ⟨1, _⟩ => rfl | ⟨2, _⟩ => rfl
  · rw [dif_neg hk]
    have hk' : 512 ≤ k.val := Nat.le_of_not_lt hk
    have hk2 := k.isLt
    refine (concatenate_pair_apply_right (t := S8x4096x1024) (s₁ := S8x4096x512) (s₂ := S8x4096x512) 2 _ _ _ (ix3 b s k) rfl rfl (ix3 b s (⟨k.val - 512, by omega⟩ : Fin 512)) ?_ ?_).trans (v21_apply _ _ _ _ _)
    · exact fun a ha => match a with | ⟨0, _⟩ => rfl | ⟨1, _⟩ => rfl | ⟨2, _⟩ => absurd rfl ha
    · show k.val - 512 + 512 = k.val
      omega

/-- A modulation slice spread over the tokens: the gate of the output projection. -/
theorem v26_apply (c : Fin 1024) : val_main_v26 (F := Ideal) x3 (ix3 b s c) = md x3 b 2 (by omega) c := by
  rw [val_main_v26_apply, val_main_v23_apply, val_main_v2_apply]
  exact congrArg x3 (ext2 rfl rfl)

/-- The same for the shift of the feed-forward. -/
theorem v49_apply (c : Fin 1024) : val_main_v49 (F := Ideal) x3 (ix3 b s c) = md x3 b 3 (by omega) c := by
  rw [val_main_v49_apply, val_main_v48_apply, val_main_v3_apply]
  exact congrArg x3 (ext2 rfl rfl)

/-- The same for one plus the scale of the feed-forward. -/
theorem v46_apply (c : Fin 1024) : val_main_v46 (F := Ideal) x3 (ix3 b s c) = TailRow.cOne + md x3 b 4 (by omega) c := by
  rw [val_main_v46_apply, val_main_v45_apply, val_main_v43_apply, val_main_v4_apply]
  exact congrArg₂ (· + ·) rfl (congrArg x3 (ext2 rfl rfl))

/-- The same for the gate of the feed-forward. -/
theorem v60_apply (c : Fin 1024) : val_main_v60 (F := Ideal) x3 (ix3 b s c) = md x3 b 5 (by omega) c := by
  rw [val_main_v60_apply, val_main_v55_apply, val_main_v5_apply]
  exact congrArg x3 (ext2 rfl rfl)

/-- The residual row after the output projection. -/
theorem v28_apply (c : Fin 1024) : val_main_v28 (F := Ideal) x0 x1 x2 x3 x4 x7 (ix3 b s c) = rX1 x0 x1 x2 x3 x4 x7 b s c := by
  rw [val_main_v28_apply, val_main_v27_apply, v26_apply, val_main_v25_apply]
  unfold rX1 TailRow.x1
  refine congrArg (x0 (ix3 b s c) + ·) (congrArg (md x3 b 2 (by omega) c * ·) (Finset.sum_congr rfl fun k _ => ?_))
  rw [show lidx_main_v25 (ix3 b s c) k = ix3 b s k from ext3 rfl rfl rfl, v22_apply, val_main_v24_apply]
  refine congrArg (HMul.hMul _) (congrArg x7 (ext3 rfl ?_ ?_))
  · have := k.isLt; have := c.isLt; show (k.val * 1024 + c.val) / 1024 % 1024 = k.val; omega
  · have := k.isLt; have := c.isLt; show (k.val * 1024 + c.val) % 1024 = c.val; omega

/-- The reciprocal root mean square of that row. -/
theorem v37_apply : val_main_v37 (F := Ideal) x0 x1 x2 x3 x4 x7 (ix3 b s (0 : Fin 1))
    = TailRow.inv TailRow.c1024 (rX1 x0 x1 x2 x3 x4 x7 b s) := by
  rw [val_main_v37_apply, val_main_v36_apply, val_main_v34_apply, val_main_v32_apply, val_main_v31_apply]
  unfold TailRow.inv
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [val_main_v30_apply, show idx_main_v31 (idx_main_v32 (ix3 b s (0 : Fin 1))) k = ix3 b s k from ext3 rfl rfl rfl, v28_apply]
  rfl

/-- The feed-forward's input row. -/
theorem v50_apply (c : Fin 1024) : val_main_v50 (F := Ideal) x0 x1 x2 x3 x4 x5 x7 (ix3 b s c) = rH2 x0 x1 x2 x3 x4 x5 x7 b s c := by
  rw [val_main_v50_apply, val_main_v47_apply, val_main_v42_apply, val_main_v39_apply, v28_apply, val_main_v38_apply,
    show idx_main_v38 (ix3 b s c) = ix3 b s (0 : Fin 1) from ext3 rfl rfl rfl, v37_apply, v46_apply, v49_apply,
    val_main_v41_apply, val_main_v40_apply, val_main_v29_apply,
    show idx_main_v29 (idx_main_v40 (idx_main_v41 (ix3 b s c))) = ix2 (0 : Fin 1) c from ext2 rfl (Nat.mod_eq_of_lt c.isLt)]
  rfl

/-- The gate-and-up product at column `j` of the 5632. -/
theorem v52_apply (j : Fin 5632) : val_main_v52 (F := Ideal) x0 x1 x2 x3 x4 x5 x7 x8 (ix3 b s j)
    = ∑ k, rH2 x0 x1 x2 x3 x4 x5 x7 b s k * x8 (ix3 (0 : Fin 1) k j) := by
  rw [val_main_v52_apply]
  refine Finset.sum_congr rfl fun k _ => ?_
  rw [show lidx_main_v52 (ix3 b s j) k = ix3 b s k from ext3 rfl rfl rfl, v50_apply, val_main_v51_apply]
  refine congrArg (HMul.hMul _) (congrArg x8 (ext3 rfl ?_ ?_))
  · have := k.isLt; have := j.isLt; show (k.val * 5632 + j.val) / 5632 % 1024 = k.val; omega
  · have := k.isLt; have := j.isLt; show (k.val * 5632 + j.val) % 5632 = j.val; omega

/-- The activation row. -/
theorem v57_apply (j : Fin 2816) : val_main_v57 (F := Ideal) x0 x1 x2 x3 x4 x5 x7 x8 (ix3 b s j) = rAct x0 x1 x2 x3 x4 x5 x7 x8 b s j := by
  rw [val_main_v57_apply, val_main_v56_apply, val_main_call0_v5_apply, val_main_call0_v3_apply, val_main_call0_v1_apply,
    val_main_call0_v0_apply, val_main_v54_apply, val_main_v53_apply,
    show idx_main_v53 (ix3 b s j) = ix3 b s (⟨j.val, by omega⟩ : Fin 5632) from ext3 rfl rfl rfl,
    show idx_main_v54 (ix3 b s j) = ix3 b s (⟨2816 + j.val, by omega⟩ : Fin 5632) from ext3 rfl rfl rfl, v52_apply, v52_apply]
  unfold rAct TailRow.act Ideal.logistic
  refine congrArg₂ (· * ·) (congrArg₂ (· * ·) rfl ?_) rfl
  rw [val_main_call0_v4_apply, val_main_call0_v2_apply, val_main_call0_cst_0_apply, val_main_call0_cst_apply]
  simp only [Ideal.ofBits_def, Ideal.ofBits_one_f32, Ideal.hostDivf_def]
  rfl

/-- The residual row after the feed-forward. -/
theorem v62_apply (c : Fin 1024) : val_main_v62 (F := Ideal) x0 x1 x2 x3 x4 x5 x7 x8 x9 (ix3 b s c)
    = rX2 x0 x1 x2 x3 x4 x5 x7 x8 x9 b s c := by
  rw [val_main_v62_apply, val_main_v61_apply, v28_apply, v60_apply, val_main_v59_apply]
  unfold rX2 TailRow.x2
  refine congrArg (rX1 x0 x1 x2 x3 x4 x7 b s c + ·) (congrArg (md x3 b 5 (by omega) c * ·) (Finset.sum_congr rfl fun k _ => ?_))
  rw [show lidx_main_v59 (ix3 b s c) k = ix3 b s k from ext3 rfl rfl rfl, v57_apply, val_main_v58_apply]
  refine congrArg (HMul.hMul _) (congrArg x9 (ext3 rfl ?_ ?_))
  · have := k.isLt; have := c.isLt; show (k.val * 1024 + c.val) / 1024 % 2816 = k.val; omega
  · have := k.isLt; have := c.isLt; show (k.val * 1024 + c.val) % 1024 = c.val; omega

/-- The reciprocal root mean square of that row. -/
theorem v70_apply : val_main_v70 (F := Ideal) x0 x1 x2 x3 x4 x5 x7 x8 x9 (ix3 b s (0 : Fin 1))
    = TailRow.inv TailRow.c1024 (rX2 x0 x1 x2 x3 x4 x5 x7 x8 x9 b s) := by
  rw [val_main_v70_apply, val_main_v69_apply, val_main_v67_apply, val_main_v65_apply, val_main_v64_apply]
  unfold TailRow.inv
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [val_main_v63_apply, show idx_main_v64 (idx_main_v65 (ix3 b s (0 : Fin 1))) k = ix3 b s k from ext3 rfl rfl rfl, v62_apply]
  rfl

/-- The reference's output at token `(b, s)`, channel `c`, is the row function of the arguments. -/
theorem v75_apply (c : Fin 1024) : val_main_v75 (F := Ideal) x0 x1 x2 x3 x4 x5 x6 x7 x8 x9 (ix3 b s c)
    = rOut x0 x1 x2 x3 x4 x5 x6 x7 x8 x9 b s c := by
  rw [val_main_v75_apply, val_main_v72_apply, v62_apply, val_main_v71_apply,
    show idx_main_v71 (ix3 b s c) = ix3 b s (0 : Fin 1) from ext3 rfl rfl rfl, v70_apply, val_main_v74_apply, val_main_v73_apply,
    show idx_main_v73 (idx_main_v74 (ix3 b s c)) = ix1 c from ext1 rfl]
  rfl

/-- The batch entry of row `r` of the flat token axis. -/
abbrev rb (r : Fin 32768) : Fin 8 := ⟨r.val / 4096, by omega⟩
/-- The position of row `r` in its batch entry. -/
abbrev rs (r : Fin 32768) : Fin 4096 := ⟨r.val % 4096, by omega⟩

/-- The reference's result at row `r`, channel `c` of the flat output. -/
theorem v76_apply (r : Fin 32768) (c : Fin 1024) : val_main_v76 (F := Ideal) x0 x1 x2 x3 x4 x5 x6 x7 x8 x9 (ix2 r c)
    = rOut x0 x1 x2 x3 x4 x5 x6 x7 x8 x9 (rb r) (rs r) c := by
  rw [val_main_v76_apply, ← v75_apply]
  refine congrArg _ (ext3 ?_ ?_ ?_)
  · have := r.isLt; have := c.isLt; show (r.val * 1024 + c.val) / 4194304 = r.val / 4096; omega
  · have := r.isLt; have := c.isLt; show (r.val * 1024 + c.val) / 1024 % 4096 = r.val % 4096; omega
  · have := r.isLt; have := c.isLt; show (r.val * 1024 + c.val) % 1024 = c.val; omega

end Cert.TailRef

end
-- ==== Proof.TailKer.lean ====
/- What the kernel's body leaves in its output block, read at a row and a channel: the row functions of `TailRow` of the
   operand blocks' rows. -/
module

public import proofs.«01_k».proof.Proof.Gen.KernelIdeal.Frame
public import proofs.«01_k».proof.Proof.TailRow
public import Idealize.ShloMosaic.Lib.Pipeline.ValueKit
public import Idealize.ShloMosaic.Lib.MatmulPlain
public import Idealize.ShloMosaic.Lib.IdealHost

@[expose] public section

set_option maxRecDepth 16384

noncomputable section

namespace Cert.TailKer

open Cert.KernelIdeal Cert.KernelIdeal.Gen Idealize.ShloMosaic Idealize.ShloMosaic.TcCoe Idealize.SL.Sem
open scoped BigOperators

/-- The residual block after the output projection: the row's products over the two halves of the channels, gated and added. -/
theorem pay2_apply (v0 : FVec Ideal S512x512 .bf16) (v12 : FVec Ideal S1x512 .f32) (v17 : FVec Ideal S512x512 .bf16) (v19 : FVec Ideal S512x1024 .bf16) (v22 : FVec Ideal S512x1024 .bf16) (v26 : FVec Ideal S512x1024 .f32) (v28 : FVec Ideal S1x1x1024 .f32)
    (r : Fin 512) (c : Fin 1024) :
    k0_pay2 (F := Ideal) v0 v12 v17 v19 v22 v26 v28 (ix2 r c)
      = v26 (ix2 r c) + v28 (ix3 0 0 c) * ((∑ k : Fin 512, v17 (ix2 r k) * v19 (ix2 k c))
        + ∑ k : Fin 512, TailRow.att (fun k => v0 (ix2 r k)) (fun k => v12 (ix2 0 k)) k * v22 (ix2 k c)) := by
  pointwise [k0_pay2]
  rfl

/-- The feed-forward's input block: the residual row normalised, scaled and shifted. -/
theorem pay4_apply (v0 : FVec Ideal S512x512 .bf16) (v12 : FVec Ideal S1x512 .f32) (v17 : FVec Ideal S512x512 .bf16) (v19 : FVec Ideal S512x1024 .bf16) (v22 : FVec Ideal S512x1024 .bf16) (v26 : FVec Ideal S512x1024 .f32) (v28 : FVec Ideal S1x1x1024 .f32)
    (v38 : FVec Ideal S1x1024 .f32) (v40 v52 : FVec Ideal S1x1x1024 .f32) (r : Fin 512) (c : Fin 1024) :
    k0_pay4 (F := Ideal) (k0_pay2 (F := Ideal) v0 v12 v17 v19 v22 v26 v28) (k0_pay3 (F := Ideal) v0 v12 v17 v19 v22 v26 v28) (Scalar.ofBits .f32 0x44800000#32) v38 v40 v52 (ix2 r c)
      = TailRow.h2 (fun c => k0_pay2 (F := Ideal) v0 v12 v17 v19 v22 v26 v28 (ix2 r c)) (fun c => v38 (ix2 0 c)) (fun c => v40 (ix3 0 0 c)) (fun c => v52 (ix3 0 0 c)) c := by
  unfold k0_pay3
  generalize k0_pay2 (F := Ideal) v0 v12 v17 v19 v22 v26 v28 = y
  pointwise [k0_pay4]
  unfold TailRow.h2 TailRow.inv
  rw [show TailRow.cOne = 1 from Ideal.ofBits_one_f32]

/-- One chunk of the feed-forward on vectors: the two products, the activation, the product down. -/
def CH (h : FVec Ideal S512x1024 .bf16) (g u : FVec Ideal S1024x256 .bf16) (d : FVec Ideal S256x1024 .bf16) : FVec Ideal S512x1024 .f32 :=
  matmul dot_S512x256_S256x1024_S512x1024_1_0_0_1_n_n none
    (truncf .bf16 (mulf (mulf (matmul dot_S512x1024_S1024x256_S512x256_1_0_0_1_n_n none h g (constant S512x256 .f32 0x00000000#32))
      (logistic (matmul dot_S512x1024_S1024x256_S512x256_1_0_0_1_n_n none h g (constant S512x256 .f32 0x00000000#32))))
      (matmul dot_S512x1024_S1024x256_S512x256_1_0_0_1_n_n none h u (constant S512x256 .f32 0x00000000#32))) bitsLt_bf16_f32)
    d (constant S512x1024 .f32 0x00000000#32)

/-- A chunk read at a row and a channel. -/
theorem CH_apply (h : FVec Ideal S512x1024 .bf16) (g u : FVec Ideal S1024x256 .bf16) (d : FVec Ideal S256x1024 .bf16) (r : Fin 512) (c : Fin 1024) :
    CH h g u d (ix2 r c) = ∑ j : Fin 256, (∑ k : Fin 1024, h (ix2 r k) * g (ix2 k j)) * Ideal.logistic (∑ k : Fin 1024, h (ix2 r k) * g (ix2 k j))
      * (∑ k : Fin 1024, h (ix2 r k) * u (ix2 k j)) * d (ix2 j c) := by
  pointwise [CH]

/-- The first chunk, added to the zero block. -/
theorem pay5_eq (v32 : FVec Ideal S512x1024 .f32) (v35 : FVec Ideal S512x1 .f32) (s : Ideal .f32) (v38 : FVec Ideal S1x1024 .f32) (v40 v52 : FVec Ideal S1x1x1024 .f32)
    (g u : FVec Ideal S1024x256 .bf16) (d : FVec Ideal S256x1024 .bf16) :
    k0_pay5 (F := Ideal) v32 v35 s v38 v40 v52 g u d
      = addf (broadcast S512x1024 (Scalar.ofBits .f32 0x00000000#32)) (CH (k0_pay4 (F := Ideal) v32 v35 s v38 v40 v52) g u d) := by
  unfold k0_pay5 CH
  simp only [shapeCast_self]

/-- The second and the third chunk. -/
theorem pay6_eq (h : FVec Ideal S512x1024 .bf16) (a : FVec Ideal S512x1024 .f32) (g u g' u' : FVec Ideal S1024x256 .bf16) (d d' : FVec Ideal S256x1024 .bf16) :
    k0_pay6 h a g u d g' u' d' = addf (addf a (CH h g u d)) (CH h g' u' d') := by
  unfold k0_pay6 CH
  simp only [shapeCast_self]

/-- The fourth, fifth and sixth chunk. -/
theorem pay8_eq (h : FVec Ideal S512x1024 .bf16) (a : FVec Ideal S512x1024 .f32) (g u g' u' g'' u'' : FVec Ideal S1024x256 .bf16) (d d' d'' : FVec Ideal S256x1024 .bf16) :
    k0_pay8 h a (k0_pay7 h g u) d g' u' d' g'' u'' d'' = addf (addf (addf a (CH h g u d)) (CH h g' u' d')) (CH h g'' u'' d'') := by
  unfold k0_pay8 k0_pay7 CH
  simp only [shapeCast_self]

/-- The seventh and the eighth chunk. -/
theorem pay10_eq (h : FVec Ideal S512x1024 .bf16) (a : FVec Ideal S512x1024 .f32) (g u g' u' : FVec Ideal S1024x256 .bf16) (d d' : FVec Ideal S256x1024 .bf16) :
    k0_pay10 h a (k0_pay9 h g) u d g' u' d' = addf (addf a (CH h g u d)) (CH h g' u' d') := by
  unfold k0_pay10 k0_pay9 CH
  simp only [shapeCast_self]

/-- The last three chunks, gated and added to the residual block. -/
theorem pay12_eq (y : FVec Ideal S512x1024 .f32) (h : FVec Ideal S512x1024 .bf16) (a : FVec Ideal S512x1024 .f32) (g u g' u' g'' u'' : FVec Ideal S1024x256 .bf16) (d d' d'' : FVec Ideal S256x1024 .bf16)
    (v212 : FVec Ideal S1x1x1024 .f32) :
    k0_pay12 y h a (k0_pay11 h g u d) g' u' d' g'' u'' d'' v212 = addf y (mulf (broadcastTo S512x1024 (shapeCast S1x1024 v212 shapeCasts_S1x1x1024_S1x1024) broadcasts_S1x1024_S512x1024)
      (addf (addf (addf a (CH h g u d)) (CH h g' u' d')) (CH h g'' u'' d''))) := by
  unfold k0_pay12 k0_pay11 CH
  simp only [shapeCast_self]

/-- The output block: the last residual row normalised and scaled. -/
theorem pay1_apply (y : FVec Ideal S512x1024 .f32) (h : FVec Ideal S512x1024 .bf16) (a b : FVec Ideal S512x1024 .f32) (g u g' u' : FVec Ideal S1024x256 .bf16) (d d' : FVec Ideal S256x1024 .bf16)
    (v212 : FVec Ideal S1x1x1024 .f32) (v227 : FVec Ideal S1x1024 .f32) (r : Fin 512) (c : Fin 1024) :
    k0_pay1 (k0_pay12 y h a b g u d g' u' d' v212) (k0_pay13 y h a b g u d g' u' d' v212) (Scalar.ofBits .f32 0x44800000#32) v227 (ix2 r c)
      = TailRow.last (fun c => k0_pay12 (F := Ideal) y h a b g u d g' u' d' v212 (ix2 r c)) (fun c => v227 (ix2 0 c)) c := by
  unfold k0_pay13
  generalize k0_pay12 y h a b g u d g' u' d' v212 = z
  pointwise [k0_pay1]
  rfl

variable (x0 : FVec Ideal S512x1024 .f32) (x1 : FVec Ideal S512x512 .bf16) (x2 : FVec Ideal S512x512 .bf16) (x3 x4 x5 x6 : FVec Ideal S1x1x1024 .f32)
  (x7 : FVec Ideal S1x512 .f32) (x8 x9 : FVec Ideal S1x1024 .f32) (x10 : FVec Ideal S1024x1024 .bf16) (x11 : FVec Ideal S1024x5632 .bf16) (x12 : FVec Ideal S2816x1024 .bf16)
  (r : Fin 512)

/-- The residual row after the output projection, of the operand blocks' row `r`. -/
abbrev kX1 : Fin 1024 → EReal :=
  TailRow.x1 (fun k => x0 (ix2 r k)) (fun k => x3 (ix3 0 0 k)) (fun k => x1 (ix2 r k)) (fun k => x2 (ix2 r k)) (fun k => x7 (ix2 0 k)) (fun k c => x10 (ix2 k c))

/-- The feed-forward's input row. -/
abbrev kH2 : Fin 1024 → EReal := TailRow.h2 (kX1 x0 x1 x2 x3 x7 x10 r) (fun k => x8 (ix2 0 k)) (fun k => x5 (ix3 0 0 k)) (fun k => x4 (ix3 0 0 k))

/-- The activation row. -/
abbrev kAct : Fin 2816 → EReal := TailRow.act (kH2 x0 x1 x2 x3 x4 x5 x7 x8 x10 r) (fun k c => x11 (ix2 k c))

/-- The residual block is the row function of the operand rows. -/
theorem x1_apply (c : Fin 1024) : k0_pay14 (F := Ideal) x0 x1 x2 x3 x4 x5 x6 x7 x8 x9 x10 x11 x12 (ix2 r c) = kX1 x0 x1 x2 x3 x7 x10 r c := by
  unfold k0_pay14
  refine (pay2_apply _ _ _ _ _ _ _ r c).trans ?_
  unfold kX1 TailRow.x1
  rw [TailRow.sum_mixed]
  simp only [View.ld_unit]
  pointwise []

/-- The feed-forward's input block is the row function of the operand rows. -/
theorem hh_apply (c : Fin 1024) : k0_pay16 (F := Ideal) x0 x1 x2 x3 x4 x5 x6 x7 x8 x9 x10 x11 x12 (ix2 r c) = kH2 x0 x1 x2 x3 x4 x5 x7 x8 x10 r c := by
  unfold k0_pay16
  refine (pay4_apply (View.ld (Val := Elt Ideal) (e' := .bf16) x2 r0_0) (View.ld (Val := Elt Ideal) (e' := .f32) x7 r0_1) (View.ld (Val := Elt Ideal) (e' := .bf16) x1 r0_0) (View.ld (Val := Elt Ideal) (e' := .bf16) x10 r0_2) (View.ld (Val := Elt Ideal) (e' := .bf16) x10 r0_3) (View.ld (Val := Elt Ideal) (e' := .f32) x0 r0_4) (View.ld (Val := Elt Ideal) (e' := .f32) x3 r0_5) (View.ld (Val := Elt Ideal) (e' := .f32) x8 r0_6) (View.ld (Val := Elt Ideal) (e' := .f32) x5 r0_5) (View.ld (Val := Elt Ideal) (e' := .f32) x4 r0_5) r c).trans ?_
  unfold kH2
  rw [show (fun c => k0_pay2 (F := Ideal) (View.ld (Val := Elt Ideal) (e' := .bf16) x2 r0_0) (View.ld (Val := Elt Ideal) (e' := .f32) x7 r0_1) (View.ld (Val := Elt Ideal) (e' := .bf16) x1 r0_0) (View.ld (Val := Elt Ideal) (e' := .bf16) x10 r0_2) (View.ld (Val := Elt Ideal) (e' := .bf16) x10 r0_3) (View.ld (Val := Elt Ideal) (e' := .f32) x0 r0_4) (View.ld (Val := Elt Ideal) (e' := .f32) x3 r0_5) (ix2 r c)) = kX1 x0 x1 x2 x3 x7 x10 r
    from funext fun c => x1_apply x0 x1 x2 x3 x4 x5 x6 x7 x8 x9 x10 x11 x12 r c]
  pointwise []

/-- A chunk of columns `256 i …` of the blocks is chunk `i` of the activation row's sum. -/
theorem CH_chunk (h : FVec Ideal S512x1024 .bf16) (i : ℕ) (hi : i < 11) (n : ℕ) (hn : n = 256 * i) (n' : ℕ) (hn' : n' = 2816 + 256 * i)
    (hg : ∀ a, (![0, n] : Fin 2 → ℕ) a + S1024x256.size a ≤ S1024x5632.size a) (hu : ∀ a, (![0, n'] : Fin 2 → ℕ) a + S1024x256.size a ≤ S1024x5632.size a)
    (hd : ∀ a, (![n, 0] : Fin 2 → ℕ) a + S256x1024.size a ≤ S2816x1024.size a) (c : Fin 1024) :
    CH h (View.ld (Val := Elt Ideal) (e' := .bf16) x11 (Rect.unit (s := S1024x5632) ![0, n] S1024x256.size hg)) (View.ld (Val := Elt Ideal) (e' := .bf16) x11 (Rect.unit (s := S1024x5632) ![0, n'] S1024x256.size hu))
      (View.ld (Val := Elt Ideal) (e' := .bf16) x12 (Rect.unit (s := S2816x1024) ![n, 0] S256x1024.size hd)) (ix2 r c)
    = TailRow.chunk (fun j => TailRow.act (fun k => h (ix2 r k)) (fun k c => x11 (ix2 k c)) j * x12 (ix2 j c)) i hi := by
  subst hn hn'
  refine (CH_apply _ _ _ _ r c).trans ?_
  unfold TailRow.chunk TailRow.act TailRow.gate TailRow.up
  refine Finset.sum_congr rfl fun j _ => ?_
  have eg : ∀ k : Fin 1024, View.ld (Val := Elt Ideal) (e' := .bf16) x11 (Rect.unit (s := S1024x5632) ![0, 256 * i] S1024x256.size hg) (ix2 k j) = x11 (ix2 k (⟨256 * i + j.val, by omega⟩ : Fin 5632)) := fun k => by
    refine congrArg x11 (funext fun a => Fin.ext ?_)
    match a with
    | ⟨0, _⟩ => show 0 + 1 * k.val = k.val; omega
    | ⟨1, _⟩ => show 256 * i + 1 * j.val = 256 * i + j.val; omega
  have eu : ∀ k : Fin 1024, View.ld (Val := Elt Ideal) (e' := .bf16) x11 (Rect.unit (s := S1024x5632) ![0, 2816 + 256 * i] S1024x256.size hu) (ix2 k j) = x11 (ix2 k (⟨2816 + (256 * i + j.val), by omega⟩ : Fin 5632)) := fun k => by
    refine congrArg x11 (funext fun a => Fin.ext ?_)
    match a with
    | ⟨0, _⟩ => show 0 + 1 * k.val = k.val; omega
    | ⟨1, _⟩ => show 2816 + 256 * i + 1 * j.val = 2816 + (256 * i + j.val); omega
  have ed : View.ld (Val := Elt Ideal) (e' := .bf16) x12 (Rect.unit (s := S2816x1024) ![256 * i, 0] S256x1024.size hd) (ix2 j c) = x12 (ix2 (⟨256 * i + j.val, by omega⟩ : Fin 2816) c) := by
    refine congrArg x12 (funext fun a => Fin.ext ?_)
    match a with
    | ⟨0, _⟩ => show 256 * i + 1 * j.val = 256 * i + j.val; omega
    | ⟨1, _⟩ => show 0 + 1 * c.val = c.val; omega
  simp only [eg, eu, ed]

/-- WHAT THE BODY LEAVES: the output block at row `r`, channel `c` is the token's row function of the operand blocks. -/
theorem out_apply (c : Fin 1024) : out0_13 (F := Ideal) x0 x1 x2 x3 x4 x5 x6 x7 x8 x9 x10 x11 x12 (ix2 r c)
    = TailRow.last (TailRow.x2 (kX1 x0 x1 x2 x3 x7 x10 r) (fun k => x6 (ix3 0 0 k)) (kAct x0 x1 x2 x3 x4 x5 x7 x8 x10 x11 r) (fun k c => x12 (ix2 k c))) (fun k => x9 (ix2 0 k)) c := by
  unfold out0_13
  rw [View.canon_unit_zero (S := S512x1024) (by decide)]
  refine (pay1_apply _ _ _ _ _ _ _ _ _ _ _ _ r c).trans ?_
  have hx2 : (fun c => k0_pay12 (F := Ideal) (k0_pay14 (F := Ideal) x0 x1 x2 x3 x4 x5 x6 x7 x8 x9 x10 x11 x12) (k0_pay16 (F := Ideal) x0 x1 x2 x3 x4 x5 x6 x7 x8 x9 x10 x11 x12) (k0_pay17 (F := Ideal) x0 x1 x2 x3 x4 x5 x6 x7 x8 x9 x10 x11 x12) (k0_pay18 (F := Ideal) x0 x1 x2 x3 x4 x5 x6 x7 x8 x9 x10 x11 x12) (View.ld (Val := Elt Ideal) (e' := .bf16) x11 r0_34) (View.ld (Val := Elt Ideal) (e' := .bf16) x11 r0_35) (View.ld (Val := Elt Ideal) (e' := .bf16) x12 r0_36) (View.ld (Val := Elt Ideal) (e' := .bf16) x11 r0_37) (View.ld (Val := Elt Ideal) (e' := .bf16) x11 r0_38) (View.ld (Val := Elt Ideal) (e' := .bf16) x12 r0_39) (View.ld (Val := Elt Ideal) (e' := .f32) x6 r0_5) (ix2 r c))
      = TailRow.x2 (kX1 x0 x1 x2 x3 x7 x10 r) (fun k => x6 (ix3 0 0 k)) (kAct x0 x1 x2 x3 x4 x5 x7 x8 x10 x11 r) (fun k c => x12 (ix2 k c)) := by
    funext c
    unfold k0_pay18
    rw [pay12_eq]
    unfold k0_pay17
    rw [pay5_eq, pay6_eq, pay8_eq, pay10_eq]
    have e5 : k0_pay4 (F := Ideal) (k0_pay14 (F := Ideal) x0 x1 x2 x3 x4 x5 x6 x7 x8 x9 x10 x11 x12) (k0_pay15 (F := Ideal) x0 x1 x2 x3 x4 x5 x6 x7 x8 x9 x10 x11 x12) (Scalar.ofBits .f32 0x44800000#32) (View.ld (Val := Elt Ideal) (e' := .f32) x8 r0_6) (View.ld (Val := Elt Ideal) (e' := .f32) x5 r0_5) (View.ld (Val := Elt Ideal) (e' := .f32) x4 r0_5)
      = k0_pay16 (F := Ideal) x0 x1 x2 x3 x4 x5 x6 x7 x8 x9 x10 x11 x12 := rfl
    rw [e5]
    unfold TailRow.x2
    have eh : (fun k => k0_pay16 (F := Ideal) x0 x1 x2 x3 x4 x5 x6 x7 x8 x9 x10 x11 x12 (ix2 r k)) = kH2 x0 x1 x2 x3 x4 x5 x7 x8 x10 r :=
      funext fun k => hh_apply x0 x1 x2 x3 x4 x5 x6 x7 x8 x9 x10 x11 x12 r k
    simp only [addf_apply, mulf_apply]
    rw [x1_apply]
    generalize k0_pay16 (F := Ideal) x0 x1 x2 x3 x4 x5 x6 x7 x8 x9 x10 x11 x12 = h at eh ⊢
    rw [CH_chunk x11 x12 r h 0 (by omega) _ rfl _ rfl, CH_chunk x11 x12 r h 1 (by omega) _ rfl _ rfl, CH_chunk x11 x12 r h 2 (by omega) _ rfl _ rfl,
      CH_chunk x11 x12 r h 3 (by omega) _ rfl _ rfl, CH_chunk x11 x12 r h 4 (by omega) _ rfl _ rfl, CH_chunk x11 x12 r h 5 (by omega) _ rfl _ rfl,
      CH_chunk x11 x12 r h 6 (by omega) _ rfl _ rfl, CH_chunk x11 x12 r h 7 (by omega) _ rfl _ rfl, CH_chunk x11 x12 r h 8 (by omega) _ rfl _ rfl,
      CH_chunk x11 x12 r h 9 (by omega) _ rfl _ rfl, CH_chunk x11 x12 r h 10 (by omega) _ rfl _ rfl]
    rw [eh, TailRow.sum_chunks]
    pointwise []
  rw [hx2]
  pointwise []

end Cert.TailKer

end
-- ==== Proof.TailFinal.lean ====
/- The tail kernel's output array after the run: every 512-row block is the row function of the argument arrays' rows. -/
module

public import proofs.«01_k».proof.Proof.TailKer
public import proofs.«01_k».proof.Proof.TailRef
public import Idealize.ShloMosaic.Lib.Pipeline.ValueKit

@[expose] public section

set_option maxRecDepth 16384

noncomputable section

namespace Cert.TailFinal

open Idealize.ShloMosaic Idealize.ShloMosaic.TcCoe Idealize.SL.Sem
open Idealize.ShloMosaic.Pipeline (Dat)
open Cert.KernelIdeal Cert.KernelIdeal.Gen
open Cert.TailRef (rb rs md ext1 ext2 ext3 rX1 rH2 rAct rX2 rOut)

variable (m : (ℓ : Loc nD τ sig) → Buf (Elt Ideal) ℓ) (c : Dev nD)

/-- The block index of every window at every grid point. -/
theorem idx : ∀ t : Fin cfg0.N, win0_0.index t = ![t.val, 0] ∧ win0_1.index t = ![t.val, 0] ∧ win0_2.index t = ![t.val, 0]
    ∧ win0_3.index t = ![t.val / 8, 0, 2] ∧ win0_4.index t = ![t.val / 8, 0, 3] ∧ win0_5.index t = ![t.val / 8, 0, 4] ∧ win0_6.index t = ![t.val / 8, 0, 5]
    ∧ win0_7.index t = ![0, 0] ∧ win0_8.index t = ![0, 0] ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, _)

/-- The array row that row `r` of point `t`'s block is. -/
abbrev row (t : Fin cfg0.N) (r : Fin 512) : Fin 32768 := ⟨512 * t.val + r.val, by have : t.val < 64 := t.isLt; omega⟩

/-- A block of the residual stream is the argument's rows. -/
theorem e0 (t : Fin cfg0.N) (r : Fin 512) (k : Fin 1024) :
    (iblk m c 0 t : FVec Ideal S512x1024 .f32) (ix2 r k) = (m ((c : Thread nD τ).loc main_arg0) : FVec Ideal S8x4096x1024 .f32) (ix3 (rb (row t r)) (rs (row t r)) k) := by
  blk_simp [iblk]
  entry_read
  pointwise []
  refine congrArg (m (c, Proc.tc.devRef main_arg0)) (ext3 ?_ ?_ ?_)
  · show _ / 4096 = (512 * t.val + r.val) / 4096
    blk_simp [idx t]
    idx_bounds
    first | omega | (congr 1; omega)
  · show _ % 4096 = (512 * t.val + r.val) % 4096
    blk_simp [idx t]
    first | omega | (congr 1; omega)
  · blk_simp [idx t]
    try omega

/-- A block of the recurrence's output is the argument's rows. -/
theorem e1 (t : Fin cfg0.N) (r : Fin 512) (k : Fin 512) :
    (iblk m c 1 t : FVec Ideal S512x512 .bf16) (ix2 r k) = (m ((c : Thread nD τ).loc main_arg1) : FVec Ideal S8x4096x512 .bf16) (ix3 (rb (row t r)) (rs (row t r)) k) := by
  blk_simp [iblk]
  entry_read
  pointwise []
  refine congrArg (m (c, Proc.tc.devRef main_arg1)) (ext3 ?_ ?_ ?_)
  · show _ / 4096 = (512 * t.val + r.val) / 4096
    blk_simp [idx t]
    idx_bounds
    first | omega | (congr 1; omega)
  · show _ % 4096 = (512 * t.val + r.val) % 4096
    blk_simp [idx t]
    first | omega | (congr 1; omega)
  · blk_simp [idx t]
    try omega

/-- A block of the attention's output is the argument's rows. -/
theorem e2 (t : Fin cfg0.N) (r : Fin 512) (k : Fin 512) :
    (iblk m c 2 t : FVec Ideal S512x512 .bf16) (ix2 r k) = (m ((c : Thread nD τ).loc main_arg2) : FVec Ideal S8x4096x512 .bf16) (ix3 (rb (row t r)) (rs (row t r)) k) := by
  blk_simp [iblk]
  entry_read
  pointwise []
  refine congrArg (m (c, Proc.tc.devRef main_arg2)) (ext3 ?_ ?_ ?_)
  · show _ / 4096 = (512 * t.val + r.val) / 4096
    blk_simp [idx t]
    idx_bounds
    first | omega | (congr 1; omega)
  · show _ % 4096 = (512 * t.val + r.val) % 4096
    blk_simp [idx t]
    first | omega | (congr 1; omega)
  · blk_simp [idx t]
    try omega

/-- Modulation window 3 is column group 2 of the batch entry's row. -/
theorem e3 (t : Fin cfg0.N) (r : Fin 512) (k : Fin 1024) :
    (iblk m c 3 t : FVec Ideal S1x1x1024 .f32) (ix3 0 0 k) = md (m ((c : Thread nD τ).loc main_arg3)) (rb (row t r)) 2 (by omega) k := by
  blk_simp [iblk]
  entry_read
  pointwise []
  have ht : t.val < 64 := t.isLt
  refine congrArg (m (c, Proc.tc.devRef main_arg3)) (ext2 ?_ ?_)
  · show _ = (512 * t.val + r.val) / 4096
    blk_simp [idx t]
    try omega
  · show _ = 1024 * 2 + k.val
    blk_simp [idx t]
    try omega

/-- Modulation window 4 is column group 3 of the batch entry's row. -/
theorem e4 (t : Fin cfg0.N) (r : Fin 512) (k : Fin 1024) :
    (iblk m c 4 t : FVec Ideal S1x1x1024 .f32) (ix3 0 0 k) = md (m ((c : Thread nD τ).loc main_arg3)) (rb (row t r)) 3 (by omega) k := by
  blk_simp [iblk]
  entry_read
  pointwise []
  have ht : t.val < 64 := t.isLt
  refine congrArg (m (c, Proc.tc.devRef main_arg3)) (ext2 ?_ ?_)
  · show _ = (512 * t.val + r.val) / 4096
    blk_simp [idx t]
    try omega
  · show _ = 1024 * 3 + k.val
    blk_simp [idx t]
    try omega

/-- Modulation window 5 is column group 4 of the batch entry's row. -/
theorem e5 (t : Fin cfg0.N) (r : Fin 512) (k : Fin 1024) :
    (iblk m c 5 t : FVec Ideal S1x1x1024 .f32) (ix3 0 0 k) = md (m ((c : Thread nD τ).loc main_arg3)) (rb (row t r)) 4 (by omega) k := by
  blk_simp [iblk]
  entry_read
  pointwise []
  have ht : t.val < 64 := t.isLt
  refine congrArg (m (c, Proc.tc.devRef main_arg3)) (ext2 ?_ ?_)
  · show _ = (512 * t.val + r.val) / 4096
    blk_simp [idx t]
    try omega
  · show _ = 1024 * 4 + k.val
    blk_simp [idx t]
    try omega

/-- Modulation window 6 is column group 5 of the batch entry's row. -/
theorem e6 (t : Fin cfg0.N) (r : Fin 512) (k : Fin 1024) :
    (iblk m c 6 t : FVec Ideal S1x1x1024 .f32) (ix3 0 0 k) = md (m ((c : Thread nD τ).loc main_arg3)) (rb (row t r)) 5 (by omega) k := by
  blk_simp [iblk]
  entry_read
  pointwise []
  have ht : t.val < 64 := t.isLt
  refine congrArg (m (c, Proc.tc.devRef main_arg3)) (ext2 ?_ ?_)
  · show _ = (512 * t.val + r.val) / 4096
    blk_simp [idx t]
    try omega
  · show _ = 1024 * 5 + k.val
    blk_simp [idx t]
    try omega

/-- Gain window 7 is the argument. -/
theorem e7 (t : Fin cfg0.N) (k : Fin 512) :
    (iblk m c 7 t : FVec Ideal S1x512 .f32) (ix2 0 k) = (m ((c : Thread nD τ).loc main_arg4) : FVec Ideal S1x512 .f32) (ix2 0 k) := by
  blk_simp [iblk]
  entry_read
  pointwise []
  refine congrArg (m (c, Proc.tc.devRef main_arg4)) (ext2 ?_ ?_)
  all_goals (blk_simp [idx t]; try omega)

/-- Gain window 8 is the argument. -/
theorem e8 (t : Fin cfg0.N) (k : Fin 1024) :
    (iblk m c 8 t : FVec Ideal S1x1024 .f32) (ix2 0 k) = (m ((c : Thread nD τ).loc main_arg5) : FVec Ideal S1x1024 .f32) (ix2 0 k) := by
  blk_simp [iblk]
  entry_read
  pointwise []
  refine congrArg (m (c, Proc.tc.devRef main_arg5)) (ext2 ?_ ?_)
  all_goals (blk_simp [idx t]; try omega)

/-- Gain window 9 is the argument. -/
theorem e9 (t : Fin cfg0.N) (k : Fin 1024) :
    (iblk m c 9 t : FVec Ideal S1x1024 .f32) (ix2 0 k) = (m ((c : Thread nD τ).loc main_arg6) : FVec Ideal S1024 .f32) (ix1 k) := by
  blk_simp [iblk]
  entry_read
  pointwise []
  refine congrArg (m (c, Proc.tc.devRef main_arg6)) (ext1 ?_)
  all_goals (blk_simp [idx t]; try omega)

/-- Weight window 10 is the argument. -/
theorem e10 (t : Fin cfg0.N) (k : Fin 1024) (j : Fin 1024) :
    (iblk m c 10 t : FVec Ideal S1024x1024 .bf16) (ix2 k j) = (m ((c : Thread nD τ).loc main_arg7) : FVec Ideal S1x1024x1024 .f32) (ix3 0 k j) := by
  blk_simp [iblk]
  entry_read
  pointwise []
  refine congrArg (m (c, Proc.tc.devRef main_arg7)) (ext3 rfl ?_ ?_)
  all_goals (blk_simp [idx t]; try omega)

/-- Weight window 11 is the argument. -/
theorem e11 (t : Fin cfg0.N) (k : Fin 1024) (j : Fin 5632) :
    (iblk m c 11 t : FVec Ideal S1024x5632 .bf16) (ix2 k j) = (m ((c : Thread nD τ).loc main_arg8) : FVec Ideal S1x1024x5632 .f32) (ix3 0 k j) := by
  blk_simp [iblk]
  entry_read
  pointwise []
  refine congrArg (m (c, Proc.tc.devRef main_arg8)) (ext3 rfl ?_ ?_)
  all_goals (blk_simp [idx t]; try omega)

/-- Weight window 12 is the argument. -/
theorem e12 (t : Fin cfg0.N) (k : Fin 2816) (j : Fin 1024) :
    (iblk m c 12 t : FVec Ideal S2816x1024 .bf16) (ix2 k j) = (m ((c : Thread nD τ).loc main_arg9) : FVec Ideal S1x2816x1024 .f32) (ix3 0 k j) := by
  blk_simp [iblk]
  entry_read
  pointwise []
  refine congrArg (m (c, Proc.tc.devRef main_arg9)) (ext3 rfl ?_ ?_)
  all_goals (blk_simp [idx t]; try omega)

/-- The result array: row `R`, channel `j` is the row function of the arguments at token `R`. -/
def G : FVec Ideal S32768x1024 .f32 := fun i =>
  rOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (rb (i 0)) (rs (i 0)) (i 1)

/-- What the body leaves at a block index is the result array there. -/
theorem point (t : Fin cfg0.N) (r : Fin 512) (j : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G m c (ix2 (row t r) j) := by
  refine (TailKer.out_apply _ _ _ _ _ _ _ _ _ _ _ _ _ r j).trans ?_
  unfold G TailKer.kAct TailKer.kH2 TailKer.kX1
  simp only [e0 m c t r, e1 m c t r, e2 m c t r, e3 m c t r, e4 m c t r, e5 m c t r, e6 m c t r, e7 m c t, e8 m c t, e9 m c t, e10 m c t, e11 m c t, e12 m c t]
  rfl

/-- The kernel's result array after the run. -/
theorem final : (dats m 0 c).arrAt 13 (cfgs 0).N = G m c := by
  refine (dats m 0 c).arrAt_eq_of_covers 13 _ (by decide +kernel) fun t _ y => ?_
  blk_simp
  rw [after0_13]
  idx_vars y
  refine (point m c t _ _).trans (congrArg (G m c) (ext2 ?_ ?_))
  · blk_simp [idx t]
    show 512 * t.val + y0.val = _
    omega
  · blk_simp [idx t]

end Cert.TailFinal

end
-- ==== Proof.InRow.lean ====
/- The input projection of one token, as functions of rows over the extended reals, and the algebra its two forms differ by. -/
module

public import proofs.«01_k».proof.Proof.TailRow
public import Idealize.ShloMosaic.Lib.Pipeline.ValueKit

@[expose] public section

noncomputable section

namespace Cert.InRow

open Idealize.ShloMosaic
open scoped BigOperators

/-- The literal that scales the attention queries. -/
abbrev cAq : EReal := Ideal.ofBits .f32 0x3E000000#32
/-- The literal minus infinity. -/
abbrev cBot : EReal := Ideal.ofBits .f32 0xFF800000#32

/-- Column `c` of group `g` of the projected row. -/
def proj (h : Fin 1024 → EReal) (W : Fin 1024 → Fin 3584 → EReal) (g : ℕ) (hg : g < 7) (c : Fin 512) : EReal :=
  ∑ k, h k * W k ⟨512 * g + c.val, by omega⟩

/-- The exponential of a logit less the greatest. -/
def ex (l : Fin 2 → EReal) (a : Fin 2) : EReal := Ideal.exp (l a - Finset.fold max cBot l Finset.univ)

/-- The lower bound of the forget gate: the first entry of the softmax of the two logits. -/
def lb (l : Fin 2 → EReal) : EReal := Ideal.div (ex l 0) (ex l 0 + ex l 1)

/-- The forget gate. -/
def forget (b p : EReal) : EReal := b + (1 - b) * Ideal.logistic p

/-- The forget gate's logarithm. -/
def lf (b p : EReal) : EReal := Ideal.log (forget b p)

/-- `p` times its sigmoid. -/
def silu (p : EReal) : EReal := p * Ideal.logistic p

/-- The sigmoid is a real number. -/
theorem logistic_real (p : EReal) : ∃ r : ℝ, Ideal.logistic p = r := by
  induction p with
  | bot => exact ⟨0, by simp⟩
  | top => exact ⟨1, by simp⟩
  | coe r => exact ⟨_, Ideal.logistic_coe r⟩

/-- The literal minus infinity is the least extended real. -/
theorem cBot_eq : cBot = ⊥ := by simp [cBot, Ideal.ofBits, Ideal.ieee]

/-- The exponential of a real is a positive real. -/
theorem exp_pos (r : ℝ) : ∃ s : ℝ, 0 < s ∧ Ideal.exp (r : EReal) = s := ⟨Real.exp r, Real.exp_pos r, rfl⟩

/-- For real logits the exponentials are positive reals. -/
theorem ex_real (l : Fin 2 → EReal) (h : ∀ a, ∃ r : ℝ, l a = r) (a : Fin 2) : ∃ s : ℝ, 0 < s ∧ ex l a = s := by
  obtain ⟨r0, h0⟩ := h 0
  obtain ⟨r1, h1⟩ := h 1
  obtain ⟨ra, ha⟩ := h a
  have hm : Finset.fold max cBot l Finset.univ = ((max r0 r1 : ℝ) : EReal) := by
    have e : (Finset.univ : Finset (Fin 2)) = {0, 1} := by decide
    rw [e, Finset.fold_insert (by decide), Finset.fold_singleton, h0, h1, cBot_eq]
    rw [max_eq_left bot_le]
    exact (EReal.coe_strictMono.monotone.map_max (a := r0) (b := r1)).symm
  unfold ex
  rw [hm, ha, ← EReal.coe_sub]
  exact exp_pos _

/-- For real logits the lower bound is a real number. -/
theorem lb_real (l : Fin 2 → EReal) (h : ∀ a, ∃ r : ℝ, l a = r) : ∃ r : ℝ, lb l = r := by
  obtain ⟨s0, p0, e0⟩ := ex_real l h 0
  obtain ⟨s1, p1, e1⟩ := ex_real l h 1
  unfold lb
  rw [e0, e1, ← EReal.coe_add, Ideal.div_coe (by positivity), ← EReal.coe_mul]
  exact ⟨_, rfl⟩

/-- The key as a product is one less the forget gate, at a real lower bound. -/
theorem key (b p : EReal) (hb : ∃ r : ℝ, b = r) : (1 - b) * (1 - Ideal.logistic p) = 1 - forget b p := by
  obtain ⟨r, rfl⟩ := hb
  obtain ⟨s, hs⟩ := logistic_real p
  unfold forget
  rw [hs]
  norm_cast
  congr 1
  ring

end Cert.InRow

end
-- ==== Proof.InRef.lean ====
/- The second reference's results read at a row and channel, as the row functions of `TailRow` and `InRow` of the arguments. -/
module

public import proofs.«01_k».proof.Proof.TailRef
public import proofs.«01_k».proof.Proof.InRow
public import proofs.«01_k».proof.Proof.Gen.Reference2Ideal.Read

@[expose] public section

set_option maxRecDepth 16384

noncomputable section

namespace Cert.InRef

open Idealize.ShloMosaic Idealize.ShloMosaic.TcCoe Idealize.SL.Sem
open Cert.Reference2Ideal Cert.Reference2Ideal.Gen Cert.Reference2Ideal.Read Cert.Reference2Ideal.Value
open Cert.InRow Cert.TailRef
open scoped BigOperators

variable (x0 : FVec Ideal S8x4096x1024 .f32) (x1 : FVec Ideal S8x6144 .f32) (x2 : FVec Ideal S1x1024 .f32)
  (x3 : FVec Ideal S1x1024x3584 .f32) (x4 : FVec Ideal S2x512 .f32)

/-- The normalised and modulated token `(b, s)`. -/
def rH (b : Fin 8) (s : Fin 4096) (k : Fin 1024) : EReal :=
  TailRow.h2 (fun k => x0 (ix3 b s k)) (fun k => x2 (ix2 (0 : Fin 1) k)) (fun k => x1 (ix2 b (⟨1024 + k.val, by omega⟩ : Fin 6144)))
    (fun k => x1 (ix2 b (⟨k.val, by omega⟩ : Fin 6144))) k

/-- Group `g` of the projection of the token in row `r` of the flat token axis. -/
def rP (g : ℕ) (hg : g < 7) (r : Fin 32768) (c : Fin 512) : EReal :=
  proj (rH x0 x1 x2 (rb r) (rs r)) (fun k j => x3 (ix3 (0 : Fin 1) k j)) g hg c

/-- The learned lower bound of channel `c`. -/
def rLb (c : Fin 512) : EReal := lb fun a => x4 (ix2 a c)

/-- The log-decay at row `r`, channel `c`. -/
def rLf (r : Fin 32768) (c : Fin 512) : EReal := lf (rLb x4 c) (rP x0 x1 x2 x3 1 (by omega) r c)

/-- The reciprocal root mean square of a token. -/
theorem v14_apply (b : Fin 8) (s : Fin 4096) :
    val_main_v14 (F := Ideal) x0 (ix3 b s (0 : Fin 1)) = TailRow.inv TailRow.c1024 (fun k => x0 (ix3 b s k)) := by
  rw [val_main_v14_apply, val_main_v13_apply, val_main_v11_apply, val_main_v9_apply, val_main_v8_apply]
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [val_main_v7_apply, show idx_main_v8 (idx_main_v9 (ix3 b s (0 : Fin 1))) k = ix3 b s k from ext3 rfl rfl rfl]
  rfl

/-- The normalised and modulated token. -/
theorem v27_apply (b : Fin 8) (s : Fin 4096) (k : Fin 1024) :
    val_main_v27 (F := Ideal) x0 x1 x2 (ix3 b s k) = rH x0 x1 x2 b s k := by
  rw [val_main_v27_apply, val_main_v24_apply, val_main_v19_apply, val_main_v16_apply, val_main_v15_apply,
    show idx_main_v15 (ix3 b s k) = ix3 b s (0 : Fin 1) from ext3 rfl rfl rfl, v14_apply, val_main_v18_apply, val_main_v17_apply,
    val_main_v6_apply, val_main_v23_apply, val_main_v22_apply, val_main_v20_apply, val_main_v1_apply, val_main_v26_apply,
    val_main_v25_apply, val_main_v0_apply,
    show idx_main_v6 (idx_main_v17 (idx_main_v18 (ix3 b s k))) = ix2 (0 : Fin 1) k from ext2 rfl (by
      have := k.isLt; first | rfl | (show k.val % 1024 = k.val; omega)),
    show idx_main_v1 (idx_main_v20 (idx_main_v23 (ix3 b s k))) = ix2 b (⟨1024 + k.val, by omega⟩ : Fin 6144) from ext2 rfl rfl,
    show idx_main_v0 (idx_main_v25 (idx_main_v26 (ix3 b s k))) = ix2 b (⟨k.val, by omega⟩ : Fin 6144) from ext2 rfl rfl]
  rfl

/-- The projection of token `(b, s)`. -/
theorem v29_apply (b : Fin 8) (s : Fin 4096) (j : Fin 3584) :
    val_main_v29 (F := Ideal) x0 x1 x2 x3 (ix3 b s j) = ∑ k : Fin 1024, rH x0 x1 x2 b s k * x3 (ix3 (0 : Fin 1) k j) := by
  rw [val_main_v29_apply]
  refine Finset.sum_congr rfl fun k _ => congrArg₂ (· * ·) ?_ ?_
  · rw [show lidx_main_v29 (ix3 b s j) k = ix3 b s k from ext3 rfl rfl rfl, v27_apply]
  · rw [val_main_v28_apply]
    refine congrArg x3 (ext3 rfl ?_ ?_)
    · have := k.isLt; have := j.isLt; show (k.val * 3584 + j.val) / 3584 % 1024 = k.val; omega
    · have := k.isLt; have := j.isLt; show (k.val * 3584 + j.val) % 3584 = j.val; omega

/-- The projection of row `r` of the flat token axis. -/
theorem v30_apply (r : Fin 32768) (j : Fin 3584) :
    val_main_v30 (F := Ideal) x0 x1 x2 x3 (ix2 r j) = ∑ k : Fin 1024, rH x0 x1 x2 (rb r) (rs r) k * x3 (ix3 (0 : Fin 1) k j) := by
  rw [val_main_v30_apply, ← v29_apply]
  refine congrArg _ (ext3 ?_ ?_ ?_)
  · have := r.isLt; have := j.isLt; show (r.val * 3584 + j.val) / 14680064 = r.val / 4096; omega
  · have := r.isLt; have := j.isLt; show (r.val * 3584 + j.val) / 3584 % 4096 = r.val % 4096; omega
  · have := r.isLt; have := j.isLt; show (r.val * 3584 + j.val) % 3584 = j.val; omega

/-- Group 0 of the projection. -/
theorem v31_apply (r : Fin 32768) (c : Fin 512) :
    val_main_v31 (F := Ideal) x0 x1 x2 x3 (ix2 r c) = rP x0 x1 x2 x3 0 (by omega) r c := by
  rw [val_main_v31_apply, show idx_main_v31 (ix2 r c) = ix2 r (⟨512 * 0 + c.val, by omega⟩ : Fin 3584) from ext2 rfl (by
    first | rfl | (show 0 + c.val = 512 * 0 + c.val; omega) | (show c.val = 512 * 0 + c.val; omega)), v30_apply]
  rfl

/-- Group 1 of the projection. -/
theorem v32_apply (r : Fin 32768) (c : Fin 512) :
    val_main_v32 (F := Ideal) x0 x1 x2 x3 (ix2 r c) = rP x0 x1 x2 x3 1 (by omega) r c := by
  rw [val_main_v32_apply, show idx_main_v32 (ix2 r c) = ix2 r (⟨512 * 1 + c.val, by omega⟩ : Fin 3584) from ext2 rfl (by
    first | rfl | (show 512 + c.val = 512 * 1 + c.val; omega) | (show c.val = 512 * 1 + c.val; omega)), v30_apply]
  rfl

/-- Group 2 of the projection. -/
theorem v33_apply (r : Fin 32768) (c : Fin 512) :
    val_main_v33 (F := Ideal) x0 x1 x2 x3 (ix2 r c) = rP x0 x1 x2 x3 2 (by omega) r c := by
  rw [val_main_v33_apply, show idx_main_v33 (ix2 r c) = ix2 r (⟨512 * 2 + c.val, by omega⟩ : Fin 3584) from ext2 rfl (by
    first | rfl | (show 1024 + c.val = 512 * 2 + c.val; omega) | (show c.val = 512 * 2 + c.val; omega)), v30_apply]
  rfl

/-- Group 3 of the projection. -/
theorem v34_apply (r : Fin 32768) (c : Fin 512) :
    val_main_v34 (F := Ideal) x0 x1 x2 x3 (ix2 r c) = rP x0 x1 x2 x3 3 (by omega) r c := by
  rw [val_main_v34_apply, show idx_main_v34 (ix2 r c) = ix2 r (⟨512 * 3 + c.val, by omega⟩ : Fin 3584) from ext2 rfl (by
    first | rfl | (show 1536 + c.val = 512 * 3 + c.val; omega) | (show c.val = 512 * 3 + c.val; omega)), v30_apply]
  rfl

/-- Group 4 of the projection. -/
theorem v35_apply (r : Fin 32768) (c : Fin 512) :
    val_main_v35 (F := Ideal) x0 x1 x2 x3 (ix2 r c) = rP x0 x1 x2 x3 4 (by omega) r c := by
  rw [val_main_v35_apply, show idx_main_v35 (ix2 r c) = ix2 r (⟨512 * 4 + c.val, by omega⟩ : Fin 3584) from ext2 rfl (by
    first | rfl | (show 2048 + c.val = 512 * 4 + c.val; omega) | (show c.val = 512 * 4 + c.val; omega)), v30_apply]
  rfl

/-- Group 5 of the projection. -/
theorem v36_apply (r : Fin 32768) (c : Fin 512) :
    val_main_v36 (F := Ideal) x0 x1 x2 x3 (ix2 r c) = rP x0 x1 x2 x3 5 (by omega) r c := by
  rw [val_main_v36_apply, show idx_main_v36 (ix2 r c) = ix2 r (⟨512 * 5 + c.val, by omega⟩ : Fin 3584) from ext2 rfl (by
    first | rfl | (show 2560 + c.val = 512 * 5 + c.val; omega) | (show c.val = 512 * 5 + c.val; omega)), v30_apply]
  rfl

/-- Group 6 of the projection. -/
theorem v37_apply (r : Fin 32768) (c : Fin 512) :
    val_main_v37 (F := Ideal) x0 x1 x2 x3 (ix2 r c) = rP x0 x1 x2 x3 6 (by omega) r c := by
  rw [val_main_v37_apply, show idx_main_v37 (ix2 r c) = ix2 r (⟨512 * 6 + c.val, by omega⟩ : Fin 3584) from ext2 rfl (by
    first | rfl | (show 3072 + c.val = 512 * 6 + c.val; omega) | (show c.val = 512 * 6 + c.val; omega)), v30_apply]
  rfl

/-- The column's greatest logit. -/
theorem v38_apply (c : Fin 512) :
    val_main_v38 (F := Ideal) x4 (ix1 c) = Finset.fold max cBot (fun a => x4 (ix2 a c)) Finset.univ := by
  unfold val_main_v38
  pointwise []
  rfl

/-- The exponential of a logit less the column's greatest. -/
theorem v44_apply (a : Fin 2) (c : Fin 512) : val_main_v44 (F := Ideal) x4 (ix2 a c) = ex (fun a => x4 (ix2 a c)) a := by
  rw [val_main_v44_apply, val_main_v43_apply, val_main_v42_apply, val_main_v41_apply, val_main_v40_apply,
    show idx_main_v41 (idx_main_v42 (ix2 a c)) = ix1 c from ext1 rfl, v38_apply]
  refine congrArg (fun t => Ideal.exp (x4 (ix2 a c) - t)) ?_
  refine (congrArg (fun t => max t _) (show _ = cBot from rfl)).trans ?_
  rw [cBot_eq]
  exact max_eq_right bot_le

/-- The lower bound. -/
theorem v49_apply (c : Fin 512) : val_main_v49 (F := Ideal) x4 (ix2 (0 : Fin 1) c) = rLb x4 c := by
  rw [val_main_v49_apply, show idx_main_v49 (ix2 (0 : Fin 1) c) = ix2 (0 : Fin 2) c from ext2 rfl rfl, val_main_v48_apply, v44_apply,
    val_main_v47_apply, val_main_v46_apply, val_main_v45_apply]
  refine congrArg (Ideal.div _) ?_
  refine (congrArg₂ (· + ·) Ideal.ofBits_zero_f32 (Fin.sum_univ_two _)).trans ((zero_add _).trans (congrArg₂ (· + ·) ?_ ?_))
  · rw [show idx_main_v45 (idx_main_v46 (idx_main_v47 (ix2 (0 : Fin 2) c))) 0 = ix2 (0 : Fin 2) c from ext2 rfl rfl, v44_apply]
  · rw [show idx_main_v45 (idx_main_v46 (idx_main_v47 (ix2 (0 : Fin 2) c))) 1 = ix2 (1 : Fin 2) c from ext2 rfl rfl, v44_apply]

/-- The forget gate. -/
theorem v61_apply (r : Fin 32768) (c : Fin 512) : val_main_v61 (F := Ideal) x0 x1 x2 x3 x4 (ix2 r c)
    = forget (rLb x4 c) (rP x0 x1 x2 x3 1 (by omega) r c) := by
  rw [val_main_v61_apply, val_main_v60_apply, show idx_main_v60 (ix2 r c) = ix2 (0 : Fin 1) c from ext2 rfl rfl, v49_apply,
    val_main_v59_apply, val_main_v58_apply, show idx_main_v58 (ix2 r c) = ix2 (0 : Fin 1) c from ext2 rfl rfl, val_main_v51_apply,
    v49_apply, val_main_v57_apply, val_main_v55_apply, val_main_v53_apply, val_main_v52_apply, v32_apply]
  unfold forget Ideal.logistic
  simp only [val_main_v50_apply, val_main_v54_apply, val_main_v56_apply, val_main_cst_6_apply, val_main_cst_7_apply,
    val_main_cst_8_apply, Ideal.ofBits_def, Ideal.ofBits_one_f32, Ideal.hostDivf_def]
  rfl

/-- The query. -/
theorem v63_apply (r : Fin 32768) (c : Fin 512) : val_main_v63 (F := Ideal) x0 x1 x2 x3 (ix2 r c)
    = silu (rP x0 x1 x2 x3 0 (by omega) r c) := by
  show val_main_v62 (F := Ideal) x0 x1 x2 x3 (ix2 r c) = _
  rw [val_main_v62_apply, val_main_call0_v5_apply, val_main_call0_v3_apply, val_main_call0_v1_apply, val_main_call0_v0_apply, v31_apply]
  unfold silu Ideal.logistic
  simp only [val_main_call0_v2_apply, val_main_call0_v4_apply, val_main_call0_cst_apply, val_main_call0_cst_0_apply,
    Ideal.ofBits_def, Ideal.ofBits_one_f32, Ideal.hostDivf_def]
  rfl

/-- The key. -/
theorem v66_apply (r : Fin 32768) (c : Fin 512) : val_main_v66 (F := Ideal) x0 x1 x2 x3 x4 (ix2 r c)
    = 1 - forget (rLb x4 c) (rP x0 x1 x2 x3 1 (by omega) r c) := by
  rw [← v61_apply]
  exact congrArg (· - val_main_v61 (F := Ideal) x0 x1 x2 x3 x4 (ix2 r c)) Ideal.ofBits_one_f32

/-- The log forget gate. -/
theorem v67_apply (r : Fin 32768) (c : Fin 512) : val_main_v67 (F := Ideal) x0 x1 x2 x3 x4 (ix2 r c)
    = rLf x0 x1 x2 x3 x4 r c := by
  rw [val_main_v67_apply, v61_apply]
  rfl

/-- The value. -/
theorem v68_apply (r : Fin 32768) (c : Fin 512) : val_main_v68 (F := Ideal) x0 x1 x2 x3 (ix2 r c)
    = rP x0 x1 x2 x3 2 (by omega) r c := v33_apply x0 x1 x2 x3 r c

/-- The gate. -/
theorem v70_apply (r : Fin 32768) (c : Fin 512) : val_main_v70 (F := Ideal) x0 x1 x2 x3 (ix2 r c)
    = silu (rP x0 x1 x2 x3 3 (by omega) r c) := by
  show val_main_v69 (F := Ideal) x0 x1 x2 x3 (ix2 r c) = _
  rw [val_main_v69_apply, val_main_call1_v5_apply, val_main_call1_v3_apply, val_main_call1_v1_apply, val_main_call1_v0_apply, v34_apply]
  unfold silu Ideal.logistic
  simp only [val_main_call1_v2_apply, val_main_call1_v4_apply, val_main_call1_cst_apply, val_main_call1_cst_0_apply,
    Ideal.ofBits_def, Ideal.ofBits_one_f32, Ideal.hostDivf_def]
  rfl

/-- The scaled attention query. -/
theorem v72_apply (r : Fin 32768) (c : Fin 512) : val_main_v72 (F := Ideal) x0 x1 x2 x3 (ix2 r c)
    = rP x0 x1 x2 x3 4 (by omega) r c * cAq := by
  rw [val_main_v72_apply, v35_apply]
  rfl

end Cert.InRef

end
-- ==== Proof.InPay.lean ====
/- The input projection kernel's payloads read at an index: the row functions of `InRow` of the point's blocks. -/
module

public import proofs.«01_k».proof.Proof.InRow
public import proofs.«01_k».proof.Proof.Gen.Kernel2Ideal.Frame

@[expose] public section

set_option maxRecDepth 16384

noncomputable section

namespace Cert.InPay

open Idealize.ShloMosaic Idealize.ShloMosaic.TcCoe Idealize.SL.Sem
open Cert.Kernel2Ideal Cert.Kernel2Ideal.Gen
open Cert.InRow
open scoped BigOperators

/-- Two indices of a two-axis shape with the same coordinates are equal. -/
theorem ext2 {n0 n1 : ℕ} {x y : (⟨2, ![n0, n1]⟩ : Shape).Idx} (h0 : (x 0).val = (y 0).val) (h1 : (x 1).val = (y 1).val) : x = y :=
  funext fun a => match a with | ⟨0, _⟩ => Fin.ext h0 | ⟨1, _⟩ => Fin.ext h1

/-- Two indices of a three-axis shape with the same coordinates are equal. -/
theorem ext3 {n0 n1 n2 : ℕ} {x y : (⟨3, ![n0, n1, n2]⟩ : Shape).Idx} (h0 : (x 0).val = (y 0).val) (h1 : (x 1).val = (y 1).val)
    (h2 : (x 2).val = (y 2).val) : x = y :=
  funext fun a => match a with | ⟨0, _⟩ => Fin.ext h0 | ⟨1, _⟩ => Fin.ext h1 | ⟨2, _⟩ => Fin.ext h2

/-- The normalised and modulated row. -/
theorem p5 (x : FVec Ideal S512x1024 .f32) (g : FVec Ideal S1x1024 .f32) (sc sh : FVec Ideal S1x1x1024 .f32) (r : Fin 512) (k : Fin 1024) :
    k0_pay5 (F := Ideal) x g sc sh (ix2 r k)
      = TailRow.h2 (fun k => x (ix2 r k)) (fun k => g (ix2 0 k)) (fun k => sc (ix3 0 0 k)) (fun k => sh (ix3 0 0 k)) k := by
  unfold k0_pay5
  simp only [shapeCast_self]
  pointwise []
  unfold TailRow.h2 TailRow.inv
  rw [show TailRow.cOne = 1 from Ideal.ofBits_one_f32]

/-- The lower bound's payload. -/
theorem p6 (l : FVec Ideal S2x512 .f32) (c : Fin 512) : k0_pay6 (F := Ideal) l (ix2 0 c) = lb (fun a => l (ix2 a c)) := by
  pointwise [k0_pay6]
  rfl

variable (hb : FVec Ideal S512x1024 .bf16) (W : S1024x3584.Idx → EReal) (h : Fin 1024 → EReal) (w : Fin 1024 → Fin 3584 → EReal)
  (r c : Fin 512) (hh : ∀ k, hb (ix2 r k) = h k) (hw : ∀ k j, W (ix2 k j) = w k j)

include hh hw

/-- The product of the row with group `g`'s columns of the weights. -/
theorem prod (g : ℕ) (hg : g < 7) (inb) :
    (∑ x : Fin 1024, hb (ix2 r x) * (View.ld (Val := Elt Ideal) (e' := .bf16) W (Rect.unit ![0, 512 * g] ![1024, 512] inb) (ix2 x c) : EReal)) = proj h w g hg c := by
  unfold proj
  refine Finset.sum_congr rfl fun k _ => ?_
  rw [hh, ← hw]
  refine congrArg (h k * W ·) (ext2 ?_ ?_)
  · show 0 + 1 * k.val = k.val; omega
  · show 512 * g + 1 * c.val = 512 * g + c.val; omega

/-- The query's payload. -/
theorem o6 : k0_pay8 (F := Ideal) hb (k0_pay7 (F := Ideal) (View.ld (Val := Elt Ideal) (e' := .bf16) W (Rect.unit ![0, 0] ![1024, 512] inb_S1024x3584_S1024x512_0_0))) (ix2 r c) = silu (proj h w 0 (by omega) c) := by
  have e := prod hb W h w r c hh hw 0 (by omega) inb_S1024x3584_S1024x512_0_0
  simp only [Nat.reduceMul] at e
  generalize (View.ld (Val := Elt Ideal) (e' := .bf16) W (Rect.unit ![0, 0] ![1024, 512] inb_S1024x3584_S1024x512_0_0)) = L at e ⊢
  pointwise [k0_pay8, k0_pay7]
  rw [e]
  rfl

/-- The value's payload. -/
theorem o9 : k0_pay12 (F := Ideal) hb (View.ld (Val := Elt Ideal) (e' := .bf16) W (Rect.unit ![0, 1024] ![1024, 512] inb_S1024x3584_S1024x512_0_1024)) (ix2 r c) = proj h w 2 (by omega) c := by
  have e := prod hb W h w r c hh hw 2 (by omega) inb_S1024x3584_S1024x512_0_1024
  simp only [Nat.reduceMul] at e
  generalize (View.ld (Val := Elt Ideal) (e' := .bf16) W (Rect.unit ![0, 1024] ![1024, 512] inb_S1024x3584_S1024x512_0_1024)) = L at e ⊢
  pointwise [k0_pay12]
  rw [e]

/-- The gate's payload. -/
theorem o10 : k0_pay1 (F := Ideal) (k0_pay13 (F := Ideal) hb (View.ld (Val := Elt Ideal) (e' := .bf16) W (Rect.unit ![0, 1536] ![1024, 512] inb_S1024x3584_S1024x512_0_1536))) (ix2 r c) = silu (proj h w 3 (by omega) c) := by
  have e := prod hb W h w r c hh hw 3 (by omega) inb_S1024x3584_S1024x512_0_1536
  simp only [Nat.reduceMul] at e
  generalize (View.ld (Val := Elt Ideal) (e' := .bf16) W (Rect.unit ![0, 1536] ![1024, 512] inb_S1024x3584_S1024x512_0_1536)) = L at e ⊢
  pointwise [k0_pay1, k0_pay13]
  rw [e]
  rfl

/-- The attention query's payload. -/
theorem o11 : k0_pay2 (F := Ideal) hb (View.ld (Val := Elt Ideal) (e' := .bf16) W (Rect.unit ![0, 2048] ![1024, 512] inb_S1024x3584_S1024x512_0_2048)) (ix2 r c) = proj h w 4 (by omega) c * cAq := by
  have e := prod hb W h w r c hh hw 4 (by omega) inb_S1024x3584_S1024x512_0_2048
  simp only [Nat.reduceMul] at e
  generalize (View.ld (Val := Elt Ideal) (e' := .bf16) W (Rect.unit ![0, 2048] ![1024, 512] inb_S1024x3584_S1024x512_0_2048)) = L at e ⊢
  pointwise [k0_pay2]
  rw [e]

/-- The attention key's payload. -/
theorem o12 : k0_pay3 (F := Ideal) hb (View.ld (Val := Elt Ideal) (e' := .bf16) W (Rect.unit ![0, 2560] ![1024, 512] inb_S1024x3584_S1024x512_0_2560)) (ix2 r c) = proj h w 5 (by omega) c := by
  have e := prod hb W h w r c hh hw 5 (by omega) inb_S1024x3584_S1024x512_0_2560
  simp only [Nat.reduceMul] at e
  generalize (View.ld (Val := Elt Ideal) (e' := .bf16) W (Rect.unit ![0, 2560] ![1024, 512] inb_S1024x3584_S1024x512_0_2560)) = L at e ⊢
  pointwise [k0_pay3]
  rw [e]

/-- The attention value's payload. -/
theorem o13 : k0_pay4 (F := Ideal) hb (View.ld (Val := Elt Ideal) (e' := .bf16) W (Rect.unit ![0, 3072] ![1024, 512] inb_S1024x3584_S1024x512_0_3072)) (ix2 r c) = proj h w 6 (by omega) c := by
  have e := prod hb W h w r c hh hw 6 (by omega) inb_S1024x3584_S1024x512_0_3072
  simp only [Nat.reduceMul] at e
  generalize (View.ld (Val := Elt Ideal) (e' := .bf16) W (Rect.unit ![0, 3072] ![1024, 512] inb_S1024x3584_S1024x512_0_3072)) = L at e ⊢
  pointwise [k0_pay4]
  rw [e]

/-- The log forget gate's payload. -/
theorem o8 (B : FVec Ideal S1x512 .f32) : k0_pay10 (F := Ideal) hb B (View.ld (Val := Elt Ideal) (e' := .bf16) W (Rect.unit ![0, 512] ![1024, 512] inb_S1024x3584_S1024x512_0_512)) (ix2 r c) = lf (B (ix2 0 c)) (proj h w 1 (by omega) c) := by
  have e := prod hb W h w r c hh hw 1 (by omega) inb_S1024x3584_S1024x512_0_512
  simp only [Nat.reduceMul] at e
  generalize (View.ld (Val := Elt Ideal) (e' := .bf16) W (Rect.unit ![0, 512] ![1024, 512] inb_S1024x3584_S1024x512_0_512)) = L at e ⊢
  pointwise [k0_pay10, k0_pay9]
  rw [e]
  rfl

/-- The key's payload. -/
theorem o7 (B : FVec Ideal S1x512 .f32) : k0_pay11 (F := Ideal) hb B (View.ld (Val := Elt Ideal) (e' := .bf16) W (Rect.unit ![0, 512] ![1024, 512] inb_S1024x3584_S1024x512_0_512)) (ix2 r c) = (1 - B (ix2 0 c)) * (1 - Ideal.logistic (proj h w 1 (by omega) c)) := by
  have e := prod hb W h w r c hh hw 1 (by omega) inb_S1024x3584_S1024x512_0_512
  simp only [Nat.reduceMul] at e
  generalize (View.ld (Val := Elt Ideal) (e' := .bf16) W (Rect.unit ![0, 512] ![1024, 512] inb_S1024x3584_S1024x512_0_512)) = L at e ⊢
  pointwise [k0_pay11, k0_pay9]
  rw [e]

end Cert.InPay

end
-- ==== Proof.InFinal.lean ====
/- The input projection kernel's eight output arrays after the run: each row is the row function of the argument arrays. -/
module

public import proofs.«01_k».proof.Proof.InPay
public import proofs.«01_k».proof.Proof.InRef
public import Idealize.ShloMosaic.Lib.Pipeline.ValueKit

@[expose] public section

set_option maxRecDepth 16384

noncomputable section

namespace Cert.InFinal

open Idealize.ShloMosaic Idealize.ShloMosaic.TcCoe Idealize.SL.Sem
open Idealize.ShloMosaic.Pipeline (Dat)
open Cert.Kernel2Ideal Cert.Kernel2Ideal.Gen
open Cert.TailRef (rb rs)
open Cert.InPay (ext2 ext3)
open Cert.InRow (proj lb lf silu forget cAq)
open Cert.InRef (rH rP rLb rLf)
open scoped BigOperators

variable (m : (ℓ : Loc nD τ sig) → Buf (Elt Ideal) ℓ) (c : Dev nD)

/-- The block index of every window at every grid point. -/
theorem idx : ∀ t : Fin cfg0.N, win0_0.index t = ![t.val, 0] ∧ win0_1.index t = ![t.val / 8, 0, 0] ∧ win0_2.index t = ![t.val / 8, 0, 1]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

/-- The array row that row `r` of point `t`'s block is. -/
abbrev row (t : Fin cfg0.N) (r : Fin 512) : Fin 32768 := ⟨512 * t.val + r.val, by have : t.val < 64 := t.isLt; omega⟩

/-- The residual stream. -/
abbrev a0 : FVec Ideal S8x4096x1024 .f32 := m ((c : Thread nD τ).loc main_arg0)
/-- The modulation rows. -/
abbrev a1 : FVec Ideal S8x6144 .f32 := m ((c : Thread nD τ).loc main_arg1)
/-- The norm's gain. -/
abbrev a2 : FVec Ideal S1x1024 .f32 := m ((c : Thread nD τ).loc main_arg2)
/-- The projection's weights. -/
abbrev a3 : FVec Ideal S1x1024x3584 .f32 := m ((c : Thread nD τ).loc main_arg3)
/-- The lower bound's logits. -/
abbrev a4 : FVec Ideal S2x512 .f32 := m ((c : Thread nD τ).loc main_arg4)
/-- A block of the residual stream is the argument's rows. -/
theorem e0 (t : Fin cfg0.N) (r : Fin 512) (k : Fin 1024) :
    (iblk m c 0 t : FVec Ideal S512x1024 .f32) (ix2 r k) = a0 m c (ix3 (rb (row t r)) (rs (row t r)) k) := by
  blk_simp [iblk]
  entry_read
  pointwise []
  refine congrArg (m (c, Proc.tc.devRef main_arg0)) (ext3 ?_ ?_ ?_)
  · show _ / 4096 = (512 * t.val + r.val) / 4096
    blk_simp [idx t]
    idx_bounds
    first | omega | (congr 1; omega)
  · show _ % 4096 = (512 * t.val + r.val) % 4096
    blk_simp [idx t]
    first | omega | (congr 1; omega)
  · blk_simp [idx t]
    try omega

/-- Window 1 is the shift of the batch entry. -/
theorem e1 (t : Fin cfg0.N) (r : Fin 512) (k : Fin 1024) :
    (iblk m c 1 t : FVec Ideal S1x1x1024 .f32) (ix3 0 0 k) = a1 m c (ix2 (rb (row t r)) (⟨k.val, by omega⟩ : Fin 6144)) := by
  blk_simp [iblk]
  entry_read
  pointwise []
  have ht : t.val < 64 := t.isLt
  refine congrArg (m (c, Proc.tc.devRef main_arg1)) (ext2 ?_ ?_)
  · show _ = (512 * t.val + r.val) / 4096
    blk_simp [idx t]
    try omega
  · show _ = k.val
    blk_simp [idx t]
    try omega

/-- Window 2 is the scale of the batch entry. -/
theorem e2 (t : Fin cfg0.N) (r : Fin 512) (k : Fin 1024) :
    (iblk m c 2 t : FVec Ideal S1x1x1024 .f32) (ix3 0 0 k) = a1 m c (ix2 (rb (row t r)) (⟨1024 + k.val, by omega⟩ : Fin 6144)) := by
  blk_simp [iblk]
  entry_read
  pointwise []
  have ht : t.val < 64 := t.isLt
  refine congrArg (m (c, Proc.tc.devRef main_arg1)) (ext2 ?_ ?_)
  · show _ = (512 * t.val + r.val) / 4096
    blk_simp [idx t]
    try omega
  · show _ = 1024 + k.val
    blk_simp [idx t]
    try omega

/-- Window 3 is the norm's gain. -/
theorem e3 (t : Fin cfg0.N) (k : Fin 1024) :
    (iblk m c 3 t : FVec Ideal S1x1024 .f32) (ix2 0 k) = a2 m c (ix2 0 k) := by
  blk_simp [iblk]
  entry_read
  pointwise []
  refine congrArg (m (c, Proc.tc.devRef main_arg2)) (ext2 ?_ ?_)
  all_goals (blk_simp [idx t]; try omega)

/-- Window 5 is the lower bound's logits. -/
theorem e5 (t : Fin cfg0.N) (a : Fin 2) (k : Fin 512) :
    (iblk m c 5 t : FVec Ideal S2x512 .f32) (ix2 a k) = a4 m c (ix2 a k) := by
  blk_simp [iblk]
  entry_read
  pointwise []
  refine congrArg (m (c, Proc.tc.devRef main_arg4)) (ext2 ?_ ?_)
  all_goals (blk_simp [idx t]; try omega)

/-- Window 4 is the projection's weights. -/
theorem hw (t : Fin cfg0.N) (k : Fin 1024) (j : Fin 3584) :
    (iblk m c 4 t : S1024x3584.Idx → EReal) (ix2 k j) = a3 m c (ix3 (0 : Fin 1) k j) := by
  blk_simp [iblk]
  entry_read
  pointwise []
  refine congrArg (m (c, Proc.tc.devRef main_arg3)) (ext3 ?_ ?_ ?_)
  · rfl
  · blk_simp [idx t]
    try omega
  · blk_simp [idx t]
    try omega

/-- The block's normalised row is the token's. -/
theorem hh (t : Fin cfg0.N) (r : Fin 512) (k : Fin 1024) :
    k0_pay14 (F := Ideal) (iblk m c 0 t) (iblk m c 1 t) (iblk m c 2 t) (iblk m c 3 t) (iblk m c 4 t) (iblk m c 5 t) (ix2 r k)
      = rH (a0 m c) (a1 m c) (a2 m c) (rb (row t r)) (rs (row t r)) k := by
  unfold k0_pay14
  rw [View.ld_unit_zero (S := S512x1024) (by decide), View.ld_unit_zero (S := S1x1024) (by decide), View.ld_unit_zero (S := S1x1x1024) (by decide),
    View.ld_unit_zero (S := S1x1x1024) (by decide)]
  refine (InPay.p5 _ _ _ _ r k).trans ?_
  simp only [e0 m c t r, e1 m c t r, e2 m c t r, e3 m c t]
  rfl

/-- The lower bound of a block's logits. -/
theorem hl (t : Fin cfg0.N) (j : Fin 512) :
    k0_pay15 (F := Ideal) (iblk m c 0 t) (iblk m c 1 t) (iblk m c 2 t) (iblk m c 3 t) (iblk m c 4 t) (iblk m c 5 t) (ix2 0 j) = rLb (a4 m c) j := by
  unfold k0_pay15
  rw [View.ld_unit_zero (S := S2x512) (by decide)]
  refine (InPay.p6 _ j).trans ?_
  exact congrArg lb (funext fun a => e5 m c t a j)

/-- The query's array. -/
def G6 : FVec Ideal S32768x512 .bf16 := fun i => silu (rP (a0 m c) (a1 m c) (a2 m c) (a3 m c) 0 (by omega) (i 0) (i 1))

/-- What the body leaves in the query's block. -/
theorem point6 (t : Fin cfg0.N) (r j : Fin 512) :
    ((dats m 0 c).after 6 t : S512x512.Idx → EReal) (ix2 r j) = G6 m c (ix2 (row t r) j) := by
  rw [after0_6]
  unfold out0_6
  rw [View.canon_unit_zero (S := S512x512) (by decide)]
  refine (InPay.o6 _ (iblk m c 4 t) _ _ r j (hh m c t r) (hw m c t)).trans ?_
  rfl

/-- The query's array after the run. -/
theorem final6 : (dats m 0 c).arrAt 6 (cfgs 0).N = G6 m c := by
  refine (dats m 0 c).arrAt_eq_of_covers 6 _ (by decide +kernel) fun t _ y => ?_
  blk_simp
  idx_vars y
  refine (point6 m c t _ _).trans (congrArg (G6 m c) (ext2 ?_ ?_))
  · blk_simp [idx t]
    show 512 * t.val + y0.val = _
    omega
  · blk_simp [idx t]

/-- The key's array. -/
def G7 : FVec Ideal S32768x512 .bf16 := fun i => 1 - forget (rLb (a4 m c) (i 1)) (rP (a0 m c) (a1 m c) (a2 m c) (a3 m c) 1 (by omega) (i 0) (i 1))

/-- What the body leaves in the key's block. -/
theorem point7 (hfin : ∀ a j, ∃ r : ℝ, a4 m c (ix2 a j) = r) (t : Fin cfg0.N) (r j : Fin 512) :
    ((dats m 0 c).after 7 t : S512x512.Idx → EReal) (ix2 r j) = G7 m c (ix2 (row t r) j) := by
  rw [after0_7]
  unfold out0_7
  rw [View.canon_unit_zero (S := S512x512) (by decide)]
  refine (InPay.o7 _ (iblk m c 4 t) _ _ r j (hh m c t r) (hw m c t) (k0_pay15 (F := Ideal) (iblk m c 0 t) (iblk m c 1 t) (iblk m c 2 t) (iblk m c 3 t) (iblk m c 4 t) (iblk m c 5 t))).trans ?_
  rw [hl m c t j]
  exact InRow.key _ _ (InRow.lb_real _ fun a => hfin a j)

/-- The key's array after the run. -/
theorem final7 (hfin : ∀ a j, ∃ r : ℝ, a4 m c (ix2 a j) = r) : (dats m 0 c).arrAt 7 (cfgs 0).N = G7 m c := by
  refine (dats m 0 c).arrAt_eq_of_covers 7 _ (by decide +kernel) fun t _ y => ?_
  blk_simp
  idx_vars y
  refine (point7 m c hfin t _ _).trans (congrArg (G7 m c) (ext2 ?_ ?_))
  · blk_simp [idx t]
    show 512 * t.val + y0.val = _
    omega
  · blk_simp [idx t]

/-- The log forget gate's array. -/
def G8 : FVec Ideal S32768x512 .f32 := fun i => rLf (a0 m c) (a1 m c) (a2 m c) (a3 m c) (a4 m c) (i 0) (i 1)

/-- What the body leaves in the log forget gate's block. -/
theorem point8 (t : Fin cfg0.N) (r j : Fin 512) :
    ((dats m 0 c).after 8 t : S512x512.Idx → EReal) (ix2 r j) = G8 m c (ix2 (row t r) j) := by
  rw [after0_8]
  unfold out0_8
  rw [View.canon_unit_zero (S := S512x512) (by decide)]
  refine (InPay.o8 _ (iblk m c 4 t) _ _ r j (hh m c t r) (hw m c t) (k0_pay15 (F := Ideal) (iblk m c 0 t) (iblk m c 1 t) (iblk m c 2 t) (iblk m c 3 t) (iblk m c 4 t) (iblk m c 5 t))).trans ?_
  rw [hl m c t j]
  rfl

/-- The log forget gate's array after the run. -/
theorem final8 : (dats m 0 c).arrAt 8 (cfgs 0).N = G8 m c := by
  refine (dats m 0 c).arrAt_eq_of_covers 8 _ (by decide +kernel) fun t _ y => ?_
  blk_simp
  idx_vars y
  refine (point8 m c t _ _).trans (congrArg (G8 m c) (ext2 ?_ ?_))
  · blk_simp [idx t]
    show 512 * t.val + y0.val = _
    omega
  · blk_simp [idx t]

/-- The value's array. -/
def G9 : FVec Ideal S32768x512 .bf16 := fun i => rP (a0 m c) (a1 m c) (a2 m c) (a3 m c) 2 (by omega) (i 0) (i 1)

/-- What the body leaves in the value's block. -/
theorem point9 (t : Fin cfg0.N) (r j : Fin 512) :
    ((dats m 0 c).after 9 t : S512x512.Idx → EReal) (ix2 r j) = G9 m c (ix2 (row t r) j) := by
  rw [after0_9]
  unfold out0_9
  rw [View.canon_unit_zero (S := S512x512) (by decide)]
  refine (InPay.o9 _ (iblk m c 4 t) _ _ r j (hh m c t r) (hw m c t)).trans ?_
  rfl

/-- The value's array after the run. -/
theorem final9 : (dats m 0 c).arrAt 9 (cfgs 0).N = G9 m c := by
  refine (dats m 0 c).arrAt_eq_of_covers 9 _ (by decide +kernel) fun t _ y => ?_
  blk_simp
  idx_vars y
  refine (point9 m c t _ _).trans (congrArg (G9 m c) (ext2 ?_ ?_))
  · blk_simp [idx t]
    show 512 * t.val + y0.val = _
    omega
  · blk_simp [idx t]

/-- The gate's array. -/
def G10 : FVec Ideal S32768x512 .bf16 := fun i => silu (rP (a0 m c) (a1 m c) (a2 m c) (a3 m c) 3 (by omega) (i 0) (i 1))

/-- What the body leaves in the gate's block. -/
theorem point10 (t : Fin cfg0.N) (r j : Fin 512) :
    ((dats m 0 c).after 10 t : S512x512.Idx → EReal) (ix2 r j) = G10 m c (ix2 (row t r) j) := by
  rw [after0_10]
  unfold out0_10
  rw [View.canon_unit_zero (S := S512x512) (by decide)]
  refine (InPay.o10 _ (iblk m c 4 t) _ _ r j (hh m c t r) (hw m c t)).trans ?_
  rfl

/-- The gate's array after the run. -/
theorem final10 : (dats m 0 c).arrAt 10 (cfgs 0).N = G10 m c := by
  refine (dats m 0 c).arrAt_eq_of_covers 10 _ (by decide +kernel) fun t _ y => ?_
  blk_simp
  idx_vars y
  refine (point10 m c t _ _).trans (congrArg (G10 m c) (ext2 ?_ ?_))
  · blk_simp [idx t]
    show 512 * t.val + y0.val = _
    omega
  · blk_simp [idx t]

/-- The attention query's array. -/
def G11 : FVec Ideal S32768x512 .f32 := fun i => rP (a0 m c) (a1 m c) (a2 m c) (a3 m c) 4 (by omega) (i 0) (i 1) * cAq

/-- What the body leaves in the attention query's block. -/
theorem point11 (t : Fin cfg0.N) (r j : Fin 512) :
    ((dats m 0 c).after 11 t : S512x512.Idx → EReal) (ix2 r j) = G11 m c (ix2 (row t r) j) := by
  rw [after0_11]
  unfold out0_11
  rw [View.canon_unit_zero (S := S512x512) (by decide)]
  refine (InPay.o11 _ (iblk m c 4 t) _ _ r j (hh m c t r) (hw m c t)).trans ?_
  rfl

/-- The attention query's array after the run. -/
theorem final11 : (dats m 0 c).arrAt 11 (cfgs 0).N = G11 m c := by
  refine (dats m 0 c).arrAt_eq_of_covers 11 _ (by decide +kernel) fun t _ y => ?_
  blk_simp
  idx_vars y
  refine (point11 m c t _ _).trans (congrArg (G11 m c) (ext2 ?_ ?_))
  · blk_simp [idx t]
    show 512 * t.val + y0.val = _
    omega
  · blk_simp [idx t]

/-- The attention key's array. -/
def G12 : FVec Ideal S32768x512 .f32 := fun i => rP (a0 m c) (a1 m c) (a2 m c) (a3 m c) 5 (by omega) (i 0) (i 1)

/-- What the body leaves in the attention key's block. -/
theorem point12 (t : Fin cfg0.N) (r j : Fin 512) :
    ((dats m 0 c).after 12 t : S512x512.Idx → EReal) (ix2 r j) = G12 m c (ix2 (row t r) j) := by
  rw [after0_12]
  unfold out0_12
  rw [View.canon_unit_zero (S := S512x512) (by decide)]
  refine (InPay.o12 _ (iblk m c 4 t) _ _ r j (hh m c t r) (hw m c t)).trans ?_
  rfl

/-- The attention key's array after the run. -/
theorem final12 : (dats m 0 c).arrAt 12 (cfgs 0).N = G12 m c := by
  refine (dats m 0 c).arrAt_eq_of_covers 12 _ (by decide +kernel) fun t _ y => ?_
  blk_simp
  idx_vars y
  refine (point12 m c t _ _).trans (congrArg (G12 m c) (ext2 ?_ ?_))
  · blk_simp [idx t]
    show 512 * t.val + y0.val = _
    omega
  · blk_simp [idx t]

/-- The attention value's array. -/
def G13 : FVec Ideal S32768x512 .f32 := fun i => rP (a0 m c) (a1 m c) (a2 m c) (a3 m c) 6 (by omega) (i 0) (i 1)

/-- What the body leaves in the attention value's block. -/
theorem point13 (t : Fin cfg0.N) (r j : Fin 512) :
    ((dats m 0 c).after 13 t : S512x512.Idx → EReal) (ix2 r j) = G13 m c (ix2 (row t r) j) := by
  rw [after0_13]
  unfold out0_13
  rw [View.canon_unit_zero (S := S512x512) (by decide)]
  refine (InPay.o13 _ (iblk m c 4 t) _ _ r j (hh m c t r) (hw m c t)).trans ?_
  rfl

/-- The attention value's array after the run. -/
theorem final13 : (dats m 0 c).arrAt 13 (cfgs 0).N = G13 m c := by
  refine (dats m 0 c).arrAt_eq_of_covers 13 _ (by decide +kernel) fun t _ y => ?_
  blk_simp
  idx_vars y
  refine (point13 m c t _ _).trans (congrArg (G13 m c) (ext2 ?_ ?_))
  · blk_simp [idx t]
    show 512 * t.val + y0.val = _
    omega
  · blk_simp [idx t]

end Cert.InFinal

end
-- ==== Proof.HgWord.lean ====
/- The recurrence kernel's payloads as a few vector functions, one per step of the body, each head's at its own column offset. -/
module

public import proofs.«01_k».proof.Proof.Gen.Kernel3Ideal.Frame
public import Idealize.ShloMosaic.Lib.Pipeline.ValueKit
public import Idealize.ShloMosaic.Lib.Pipeline.ReadBack
public import Idealize.ShloMosaic.Lib.Pipeline.FrameBody

@[expose] public section

set_option maxRecDepth 16384

noncomputable section

namespace Cert.HgWord

open Idealize.ShloMosaic Idealize.ShloMosaic.TcCoe Idealize.SL.Sem
open Cert.Kernel3Ideal Cert.Kernel3Ideal.Gen

/-- Row numbers of a chunk's square. -/
abbrev I0 : IVec S128x128 32 := iota .tc S128x128 32 [0] iota_S128x128_d0_w32
/-- Column numbers of a chunk's square. -/
abbrev I1 : IVec S128x128 32 := iota .tc S128x128 32 [1] iota_S128x128_d1_w32

/-- Columns of one head. -/
abbrev cut {φ : FTy} (o : Fin 2 → ℕ) (ho : S128x512.Slices o S128x128) (a : FVec Ideal S128x512 φ) : FVec Ideal S128x128 φ :=
  extractStridedSlice S128x128 o a ho

/-- Rows against rows. -/
abbrev gram (a b : FVec Ideal S128x128 .bf16) : FVec Ideal S128x128 .f32 :=
  matmul dot_S128x128_S128x128_S128x128_1_1_0_0_n_n none a b (constant S128x128 .f32 0x00000000#32)

/-- A level's scaled rows. -/
def xl (w : BitVec 32) (Q K : FVec Ideal S128x512 .f32) (X : FVec Ideal S128x1024 .bf16) (P : Vec Ideal S128x128 .bf16) : FVec Ideal S128x512 .bf16 :=
  truncf .bf16 (mulf (select (cmpi .eq (andi (shrsi (iota .tc S128x512 32 [0] iota_S128x512_d0_w32) (broadcast S128x512 w)) (broadcast S128x512 1#32))
    (broadcast S128x512 1#32)) Q K) (exp (k0_pay58 (F := Ideal) X P))) bitsLt_bf16_f32

/-- A level's covered pairs. -/
def mask (w : BitVec 32) : IVec S128x128 1 :=
  andi (cmpi .sgt I0 I1) (cmpi .eq (shrsi (xori I0 I1) (broadcast S128x128 w)) (broadcast S128x128 1#32))

/-- The scores after one more level. -/
def step (w : BitVec 32) (o : Fin 2 → ℕ) (ho : S128x512.Slices o S128x128) (Y : FVec Ideal S128x512 .bf16) (prev : FVec Ideal S128x128 .f32) :
    FVec Ideal S128x128 .f32 :=
  select (mask w) (gram (cut o ho Y) (cut o ho Y)) prev

/-- The scores at equal positions. -/
def diag (o : Fin 2 → ℕ) (ho : S128x512.Slices o S128x128) (Q K : FVec Ideal S128x512 .bf16) : FVec Ideal S128x128 .f32 :=
  select (cmpi .eq I0 I1) (gram (cut o ho Q) (cut o ho K)) (broadcast S128x128 (Scalar.ofBits .f32 0x00000000#32))

/-- A block's rows of the selector table. -/
abbrev pl (P : Vec Ideal S1152x128 .bf16) (r : ℕ) (h : ∀ a, (![r, 0] : Fin 2 → ℕ) a + S128x128.size a ≤ S1152x128.size a) : Vec Ideal S128x128 .bf16 :=
  View.ld P (Rect.unit ![r, 0] ![128, 128] h)

/-- A head's scores over the chunk. -/
def sc (o : Fin 2 → ℕ) (ho : S128x512.Slices o S128x128) (q k : Vec Ideal S1x128x512 .bf16) (f : Vec Ideal S1x128x512 .f32) (P : Vec Ideal S1152x128 .bf16) :
    FVec Ideal S128x128 .f32 :=
  step 6#32 o ho (xl 6#32 (k0_pay4 q) (k0_pay5 k) (k0_pay3 f) (pl P 768 inb_S1152x128_S128x128_768_0))
  (step 5#32 o ho (xl 5#32 (k0_pay4 q) (k0_pay5 k) (k0_pay3 f) (pl P 640 inb_S1152x128_S128x128_640_0))
  (step 4#32 o ho (xl 4#32 (k0_pay4 q) (k0_pay5 k) (k0_pay3 f) (pl P 512 inb_S1152x128_S128x128_512_0))
  (step 3#32 o ho (xl 3#32 (k0_pay4 q) (k0_pay5 k) (k0_pay3 f) (pl P 384 inb_S1152x128_S128x128_384_0))
  (step 2#32 o ho (xl 2#32 (k0_pay4 q) (k0_pay5 k) (k0_pay3 f) (pl P 256 inb_S1152x128_S128x128_256_0))
  (step 1#32 o ho (xl 1#32 (k0_pay4 q) (k0_pay5 k) (k0_pay3 f) (pl P 128 inb_S1152x128_S128x128_128_0))
  (step 0#32 o ho (xl 0#32 (k0_pay4 q) (k0_pay5 k) (k0_pay3 f) (pl P 0 inb_S1152x128_S128x128_0_0))
  (diag o ho (k0_pay8 q) (k0_pay9 k))))))))

/-- The queries scaled by the decay since the chunk's start. -/
abbrev qe (q : Vec Ideal S1x128x512 .bf16) (f : Vec Ideal S1x128x512 .f32) (P : Vec Ideal S1152x128 .bf16) : FVec Ideal S128x512 .bf16 :=
  k0_pay59 (k0_pay3 f) (k0_pay4 q) (pl P 896 inb_S1152x128_S128x128_896_0)

/-- The keys scaled by the decay to the chunk's end. -/
abbrev kd (k : Vec Ideal S1x128x512 .bf16) (f : Vec Ideal S1x128x512 .f32) (P : Vec Ideal S1152x128 .bf16) : FVec Ideal S128x512 .bf16 :=
  k0_pay60 (k0_pay3 f) (k0_pay5 k) (pl P 1024 inb_S1152x128_S128x128_1024_0)

/-- The chunk's own decay. -/
abbrev dr (f : Vec Ideal S1x128x512 .f32) (P : Vec Ideal S1152x128 .bf16) : FVec Ideal S1x512 .f32 :=
  k0_pay61 (k0_pay3 f) (pl P 896 inb_S1152x128_S128x128_896_0)

/-- A head's output before its normalisation. -/
def oh (o : Fin 2 → ℕ) (ho : S128x512.Slices o S128x128) (q k : Vec Ideal S1x128x512 .bf16) (f : Vec Ideal S1x128x512 .f32) (v : Vec Ideal S1x128x512 .bf16)
    (P : Vec Ideal S1152x128 .bf16) (Z : Vec Ideal S1x128x128 .f32) : FVec Ideal S128x128 .f32 :=
  addf (matmul dot_S128x128_S128x128_S128x128_1_0_0_1_n_n none (truncf .bf16 (sc o ho q k f P) bitsLt_bf16_f32) (cut o ho (k0_pay6 (F := Ideal) v))
      (constant S128x128 .f32 0x00000000#32))
    (gram (cut o ho (qe q f P)) (truncf .bf16 (shapeCast S128x128 Z shapeCasts_S1x128x128_S128x128 : FVec Ideal S128x128 .f32) bitsLt_bf16_f32))

/-- A head's normalised, scaled and gated output. -/
def nh (o : Fin 2 → ℕ) (ho : S128x512.Slices o S128x128) (O : FVec Ideal S128x128 .f32) (g : Vec Ideal S1x128x512 .bf16) (n : Vec Ideal S1x128 .f32) :
    FVec Ideal S128x128 .f32 :=
  mulf (mulf (mulf O (broadcastTo S128x128 (rsqrt (addf (divf (shapeCast S128x1 (multiReduction .add [1] S128 (mulf O O) 0x00000000#32
    reduces_S128x128_S128 (.inl rfl) rfl) shapeCasts_S128_S128x1) (broadcast S128x1 (Scalar.ofBits .f32 0x43000000#32)))
    (broadcast S128x1 (Scalar.ofBits .f32 0x358637BD#32)))) broadcasts_S128x1_S128x128))
    (broadcastTo S128x128 (shapeCast S1x128 n shapeCasts_S1x128_S1x128 : FVec Ideal S1x128 .f32) broadcasts_S1x128_S128x128)) (cut o ho (k0_pay62 (F := Ideal) g))

/-- A head's state after the chunk. -/
def sh (o : Fin 2 → ℕ) (ho : S128x512.Slices o S128x128) (ho' : S1x512.Slices o S1x128) (k : Vec Ideal S1x128x512 .bf16) (f : Vec Ideal S1x128x512 .f32)
    (v : Vec Ideal S1x128x512 .bf16) (P : Vec Ideal S1152x128 .bf16) (Z : Vec Ideal S1x128x128 .f32) : FVec Ideal S1x128x128 .f32 :=
  shapeCast S1x128x128 (addf (mulf (shapeCast S128x128 Z shapeCasts_S1x128x128_S128x128) (broadcastTo S128x128
    (extractStridedSlice S1x128 o (dr f P) ho') broadcasts_S1x128_S128x128))
    (matmul dot_S128x128_S128x128_S128x128_0_0_1_1_n_n none (cut o ho (k0_pay6 (F := Ideal) v)) (cut o ho (kd k f P)) (constant S128x128 .f32 0x00000000#32)))
    shapeCasts_S128x128_S1x128x128

/-- The four heads of the state a point leaves, last first. -/
def pieces (k : Vec Ideal S1x128x512 .bf16) (f : Vec Ideal S1x128x512 .f32) (v : Vec Ideal S1x128x512 .bf16) (P : Vec Ideal S1152x128 .bf16)
    (Z : Vec Ideal S4x128x128 .f32) (rest : List (View.Piece (Elt Ideal) S4x128x128 .f32)) : List (View.Piece (Elt Ideal) S4x128x128 .f32) :=
  ⟨Rect.unit ![3, 0, 0] ![1, 128, 128] inb_S4x128x128_S1x128x128_3_0_0, sh ![0, 384] slices_S128x512_o0_384_S128x128 slices_S1x512_o0_384_S1x128 k f v P
    (View.ld Z (Rect.unit ![3, 0, 0] ![1, 128, 128] inb_S4x128x128_S1x128x128_3_0_0))⟩ ::
  ⟨Rect.unit ![2, 0, 0] ![1, 128, 128] inb_S4x128x128_S1x128x128_2_0_0, sh ![0, 256] slices_S128x512_o0_256_S128x128 slices_S1x512_o0_256_S1x128 k f v P
    (View.ld Z (Rect.unit ![2, 0, 0] ![1, 128, 128] inb_S4x128x128_S1x128x128_2_0_0))⟩ ::
  ⟨Rect.unit ![1, 0, 0] ![1, 128, 128] inb_S4x128x128_S1x128x128_1_0_0, sh ![0, 128] slices_S128x512_o0_128_S128x128 slices_S1x512_o0_128_S1x128 k f v P
    (View.ld Z (Rect.unit ![1, 0, 0] ![1, 128, 128] inb_S4x128x128_S1x128x128_1_0_0))⟩ ::
  ⟨Rect.unit ![0, 0, 0] ![1, 128, 128] inb_S4x128x128_S1x128x128_0_0_0, sh ![0, 0] slices_S128x512_o0_0_S128x128 slices_S1x512_o0_0_S1x128 k f v P
    (View.ld Z (Rect.unit ![0, 0, 0] ![1, 128, 128] inb_S4x128x128_S1x128x128_0_0_0))⟩ :: rest

/-- The output block a point leaves. -/
def outB (q k : Vec Ideal S1x128x512 .bf16) (f : Vec Ideal S1x128x512 .f32) (v g : Vec Ideal S1x128x512 .bf16) (P : Vec Ideal S1152x128 .bf16)
    (n : Vec Ideal S1x128 .f32) (Z : Vec Ideal S4x128x128 .f32) : FVec Ideal S1x128x512 .bf16 :=
  shapeCast S1x128x512 (truncf .bf16 (concatenate S128x512 1
    [⟨S128x128, nh ![0, 0] slices_S128x512_o0_0_S128x128 (oh ![0, 0] slices_S128x512_o0_0_S128x128 q k f v P
        (View.ld Z (Rect.unit ![0, 0, 0] ![1, 128, 128] inb_S4x128x128_S1x128x128_0_0_0))) g n⟩,
     ⟨S128x128, nh ![0, 128] slices_S128x512_o0_128_S128x128 (oh ![0, 128] slices_S128x512_o0_128_S128x128 q k f v P
        (View.ld Z (Rect.unit ![1, 0, 0] ![1, 128, 128] inb_S4x128x128_S1x128x128_1_0_0))) g n⟩,
     ⟨S128x128, nh ![0, 256] slices_S128x512_o0_256_S128x128 (oh ![0, 256] slices_S128x512_o0_256_S128x128 q k f v P
        (View.ld Z (Rect.unit ![2, 0, 0] ![1, 128, 128] inb_S4x128x128_S1x128x128_2_0_0))) g n⟩,
     ⟨S128x128, nh ![0, 384] slices_S128x512_o0_384_S128x128 (oh ![0, 384] slices_S128x512_o0_384_S128x128 q k f v P
        (View.ld Z (Rect.unit ![3, 0, 0] ![1, 128, 128] inb_S4x128x128_S1x128x128_3_0_0))) g n⟩]
    concatenates_S128x128_S128x128_S128x128_S128x128_S128x512_d1 : FVec Ideal S128x512 .f32) bitsLt_bf16_f32) shapeCasts_S128x512_S1x128x512

variable (m : (ℓ : Loc nD τ sig) → Buf (Elt Ideal) ℓ) (c : Dev nD)

/-- The state before a point: zero at a sequence's first chunk, else what the point before left. -/
def before (t : Fin cfg0.N) : Vec Ideal S4x128x128 .f32 :=
  if t.val % 32 = 0 then k0_pay2 (F := Ideal) else (outsAt0 m c (t.val - 1) (Nat.lt_of_le_of_lt (Nat.sub_le _ _) t.isLt)).2

/-- What a point leaves in the state. -/
theorem state (t : Fin cfg0.N) : ∃ rest, ((outsAt0 m c t.val t.isLt).2 : S4x128x128.Idx → EReal)
    = View.canon (pieces (iblk m c 1 t) (iblk m c 2 t) (iblk m c 3 t) (iblk m c 5 t) (before m c t) rest) := by
  by_cases h : t.val % 32 = 0
  · refine ⟨[⟨Rect.unit ![0, 0, 0] ![4, 128, 128] inb_S4x128x128_S4x128x128_0_0_0, k0_pay2 (F := Ideal)⟩], ?_⟩
    rw [outsAt0_A m c t h]
    frame_out
    simp (disch := decide) only [↓ View.readCov_skip, ↓ View.readCov_cons_toLoadRect, ↓ View.readCov_fill]
    unfold before
    rw [if_pos h]
    rfl
  · refine ⟨[], ?_⟩
    rw [outsAt0_B m c t h]
    frame_out
    simp only [read_unread_whole]
    unfold before
    rw [if_neg h]
    rfl

/-- What a point leaves in the output block. -/
theorem output (t : Fin cfg0.N) : ((outsAt0 m c t.val t.isLt).1 : S1x128x512.Idx → EReal)
    = outB (iblk m c 0 t) (iblk m c 1 t) (iblk m c 2 t) (iblk m c 3 t) (iblk m c 4 t) (iblk m c 5 t) (iblk m c 6 t) (before m c t) := by
  by_cases h : t.val % 32 = 0
  · rw [outsAt0_A m c t h]
    frame_out
    simp (disch := decide) only [↓ View.readCov_skip, ↓ View.readCov_cons_toLoadRect, ↓ View.readCov_fill]
    unfold before
    rw [if_pos h]
    rfl
  · rw [outsAt0_B m c t h]
    frame_out
    simp only [read_unread_whole]
    unfold before
    rw [if_neg h]
    rfl

end Cert.HgWord

end
-- ==== Proof.HgMath.lean ====
/- The gated recurrence over the reals: the closed sum over past tokens, and how one chunk of 128 tokens extends it. -/
module

public import Idealize.ShloMosaic.PureOps.Ideal.Laws
public import Mathlib.Tactic.Ring
public import Mathlib.Algebra.BigOperators.Intervals

@[expose] public section

noncomputable section

namespace Cert.HgMath

open scoped BigOperators
open Finset

/-- The sum of the first `n` log decays. -/
def A (f : ℕ → ℝ) (n : ℕ) : ℝ := ∑ u ∈ range n, f u

/-- The score of query token `t` against key token `s`: the products of the channels, each decayed from `s` to `t`. -/
def score (q k f : ℕ → Fin 128 → ℝ) (t s : ℕ) : ℝ :=
  ∑ c, q t c * k s c * Real.exp (A (fun u => f u c) (t + 1) - A (fun u => f u c) (s + 1))

/-- The recurrence's output at token `t`: every token up to it, weighted by its score. -/
def out (q k f : ℕ → Fin 128 → ℝ) (v : ℕ → ℝ) (t : ℕ) : ℝ := ∑ s ∈ range (t + 1), score q k f t s * v s

/-- The state's entry of one value channel and one key channel after `n` tokens. -/
def st (k f v : ℕ → ℝ) (n : ℕ) : ℝ := ∑ s ∈ range n, v s * (k s * Real.exp (A f n - A f (s + 1)))

/-- The sum over a chunk of the log decays at positions from `a` up to but without `b`. -/
theorem window (f : ℕ → ℝ) (B a b : ℕ) (hab : a ≤ b) (hb : b ≤ 128) (P : ℕ → Prop) [DecidablePred P]
    (hP : ∀ u, u < 128 → (P u ↔ a ≤ u ∧ u < b)) :
    (∑ u : Fin 128, (if P u.val then (1 : ℝ) else 0) * f (B + u.val)) = A f (B + b) - A f (B + a) := by
  rw [Fin.sum_univ_eq_sum_range (fun u => (if P u then (1 : ℝ) else 0) * f (B + u)) 128]
  have h1 : A f (B + b) - A f (B + a) = ∑ u ∈ Ico (B + a) (B + b), f u := (sum_Ico_eq_sub f (by omega)).symm
  rw [h1, add_comm B a, add_comm B b, ← sum_Ico_add f a b B]
  rw [show Ico a b = (range 128).filter P from by
    ext u
    simp only [mem_Ico, mem_filter, mem_range]
    constructor
    · rintro ⟨h, h'⟩
      exact ⟨by omega, (hP u (by omega)).mpr ⟨h, h'⟩⟩
    · rintro ⟨h, h'⟩
      exact (hP u h).mp h']
  rw [sum_filter]
  refine sum_congr rfl fun u _ => ?_
  split <;> simp

/-- The pairs of positions a level of width `w` covers: the later in the second half of a pair of halves, the earlier in the first. -/
def pair (w t s : ℕ) : Prop := s < t ∧ t / w / 2 = s / w / 2 ∧ t / w % 2 = 1 ∧ s / w % 2 = 0

instance (w t s : ℕ) : Decidable (pair w t s) := by unfold pair; infer_instance

/-- The positions a level of width `w` sums over for position `t`. -/
def sel (w t u : ℕ) : Prop := (t / w % 2 = 1 ∧ t / w * w ≤ u ∧ u ≤ t) ∨ (t / w % 2 = 0 ∧ t < u ∧ u < t / w * w + w)

instance (w t u : ℕ) : Decidable (sel w t u) := by unfold sel; infer_instance

/-- Over a covered pair the two exponents of a level add up to the decay between the two positions. -/
theorem level (f : ℕ → ℝ) (B w t s : ℕ) (hw : 0 < w) (ht : t < 128) (h : pair w t s) :
    (∑ u : Fin 128, (if sel w t u.val then (1 : ℝ) else 0) * f (B + u.val))
      + (∑ u : Fin 128, (if sel w s u.val then (1 : ℝ) else 0) * f (B + u.val)) = A f (B + t + 1) - A f (B + s + 1) := by
  obtain ⟨hst, hp, h1, h0⟩ := h
  have ha : t / w = s / w + 1 := by omega
  have hm : (s / w + 1) * w = s / w * w + w := by ring
  have e1 := Nat.div_add_mod t w
  have e2 := Nat.div_add_mod s w
  have e3 := Nat.mod_lt t hw
  have e4 := Nat.mod_lt s hw
  rw [mul_comm] at e1 e2
  have q1 : t / w * w ≤ t := by omega
  have q2 : s < s / w * w + w := by omega
  have q3 : t / w * w = s / w * w + w := by rw [ha, hm]
  rw [window f B (t / w * w) (t + 1) (by omega) (by omega) (sel w t) (fun u _ => by unfold sel; omega),
    window f B (s + 1) (s / w * w + w) (by omega) (by omega) (sel w s) (fun u _ => by unfold sel; omega), q3]
  simp only [← add_assoc]
  ring

/-- One level's product of two scaled rows is the score, at a covered pair. -/
theorem level_score (q k f : ℕ → Fin 128 → ℝ) (B w t s : ℕ) (hw : 0 < w) (ht : t < 128) (h : pair w t s) (x : ℕ → Fin 128 → ℝ)
    (hx : ∀ r c, x r c = (if r / w % 2 = 1 then q (B + r) c else k (B + r) c)
      * Real.exp (∑ u : Fin 128, (if sel w r u.val then (1 : ℝ) else 0) * f (B + u.val) c)) :
    (∑ c, x t c * x s c) = score q k f (B + t) (B + s) := by
  unfold score
  refine sum_congr rfl fun c _ => ?_
  rw [hx, hx, if_pos h.2.2.1, if_neg (by have := h.2.2.2; omega), ← level (fun u => f u c) B w t s hw ht h, Real.exp_add]
  ring

/-- At equal tokens the score is the plain product. -/
theorem diag_score (q k f : ℕ → Fin 128 → ℝ) (t : ℕ) : score q k f t t = ∑ c, q t c * k t c := by
  unfold score
  refine sum_congr rfl fun c _ => ?_
  rw [sub_self, Real.exp_zero, mul_one]

/-- A chunk's state from the state before it. -/
theorem st_step (k f v : ℕ → ℝ) (B : ℕ) :
    st k f v (B + 128) = st k f v B * Real.exp (A f (B + 128) - A f B)
      + ∑ u : Fin 128, v (B + u.val) * (k (B + u.val) * Real.exp (A f (B + 128) - A f (B + u.val + 1))) := by
  unfold st
  rw [sum_range_add, sum_mul, Fin.sum_univ_eq_sum_range (fun u => v (B + u) * (k (B + u) * Real.exp (A f (B + 128) - A f (B + u + 1)))) 128]
  congr 1
  refine sum_congr rfl fun s _ => ?_
  rw [show A f (B + 128) - A f (s + 1) = (A f B - A f (s + 1)) + (A f (B + 128) - A f B) by ring, Real.exp_add]
  ring

/-- The output at a chunk's token from the chunk's own scores and the state before the chunk. -/
theorem out_chunk (q k f : ℕ → Fin 128 → ℝ) (v : ℕ → ℝ) (B t : ℕ) (ht : t < 128) :
    out q k f v (B + t) = (∑ s : Fin 128, (if s.val ≤ t then score q k f (B + t) (B + s.val) else 0) * v (B + s.val))
      + ∑ c, (q (B + t) c * Real.exp (A (fun u => f u c) (B + t + 1) - A (fun u => f u c) B)) * st (fun u => k u c) (fun u => f u c) v B := by
  unfold out
  rw [add_assoc B t 1, sum_range_add, add_comm]
  congr 1
  · rw [Fin.sum_univ_eq_sum_range (fun s => (if s ≤ t then score q k f (B + t) (B + s) else 0) * v (B + s)) 128]
    rw [show range (t + 1) = (range 128).filter (· ≤ t) from by ext u; simp only [mem_filter, mem_range]; omega, sum_filter]
    refine sum_congr rfl fun u _ => ?_
    split <;> simp
  · unfold st
    simp only [mul_sum]
    rw [sum_comm]
    refine sum_congr rfl fun s _ => ?_
    unfold score
    rw [sum_mul]
    refine sum_congr rfl fun c _ => ?_
    rw [← add_assoc B t 1, show A (fun u => f u c) (B + t + 1) - A (fun u => f u c) (s + 1)
      = (A (fun u => f u c) (B + t + 1) - A (fun u => f u c) B) + (A (fun u => f u c) B - A (fun u => f u c) (s + 1)) by ring, Real.exp_add]
    ring

/-- Every earlier position is covered at one of the seven levels. -/
theorem some_level : ∀ t s : Fin 128, s.val < t.val → pair 1 t.val s.val ∨ pair 2 t.val s.val ∨ pair 4 t.val s.val ∨ pair 8 t.val s.val
    ∨ pair 16 t.val s.val ∨ pair 32 t.val s.val ∨ pair 64 t.val s.val := by decide +kernel

end Cert.HgMath

end
-- ==== Proof.HgPay.lean ====
/- The recurrence kernel's vector functions read at an index, over blocks of real numbers. -/
module

public import proofs.«01_k».proof.Proof.HgWord
public import proofs.«01_k».proof.Proof.HgMath

@[expose] public section

set_option maxRecDepth 16384

noncomputable section

namespace Cert.HgPay

open Idealize.ShloMosaic Idealize.ShloMosaic.TcCoe Idealize.SL.Sem
open Cert.Kernel3Ideal Cert.Kernel3Ideal.Gen Cert.HgWord Cert.HgMath
open scoped BigOperators

/-- A finite sum of reals, as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable (B : ℕ)

/-- A block of a chunk holds the tokens from `B` on of a real sequence. -/
def Holds {φ : FTy} (X : FVec Ideal S1x128x512 φ) (x : ℕ → Fin 512 → ℝ) : Prop := ∀ (u : Fin 128) (j : Fin 512), X (ix3 0 u j) = ((x (B + u.val) j : ℝ) : EReal)

/-- A block of the selector table marks the pairs of a relation. -/
def Marks (P : Vec Ideal S128x128 .bf16) (p : ℕ → ℕ → Prop) [∀ t u, Decidable (p t u)] : Prop :=
  ∀ (t u : Fin 128), P (ix2 t u) = (((if p t.val u.val then 1 else 0 : ℝ)) : EReal)

/-- The channels of one head. -/
def hd (off : ℕ) (h : off ≤ 384) (x : ℕ → Fin 512 → ℝ) (n : ℕ) (c : Fin 128) : ℝ := x n ⟨off + c.val, by omega⟩

variable (q k f v : ℕ → Fin 512 → ℝ)

/-- A block of selectors sums the log decays it selects. -/
theorem ex {L : FVec Ideal S1x128x512 .f32} (hL : Holds B L f) {P : Vec Ideal S128x128 .bf16} {p : ℕ → ℕ → Prop} [∀ t u, Decidable (p t u)] (hP : Marks P p)
    (t : Fin 128) (j : Fin 512) :
    k0_pay58 (F := Ideal) (k0_pay3 (F := Ideal) L) P (ix2 t j) = ((∑ u : Fin 128, (if p t.val u.val then (1 : ℝ) else 0) * f (B + u.val) j : ℝ) : EReal) := by
  have lo : ∀ u : Fin 128, k0_pay3 (F := Ideal) L (ix2 u ⟨j.val, by omega⟩) = ((f (B + u.val) j : ℝ) : EReal) := by
    intro u
    rw [← hL u j]
    pointwise [k0_pay3]
  have hi : ∀ u : Fin 128, k0_pay3 (F := Ideal) L (ix2 u ⟨512 + j.val, by omega⟩) = ((0 : ℝ) : EReal) := by
    intro u
    pointwise [k0_pay3]
    rw [hL u j, ← EReal.coe_sub, sub_self]
  generalize k0_pay3 (F := Ideal) L = X at lo hi ⊢
  pointwise [k0_pay58]
  simp only [lo, hi, hP t, ← EReal.coe_mul, coe_sum, ← EReal.coe_add, mul_zero, Finset.sum_const_zero, add_zero]

/-- The word that tells a position in the second half of a pair of halves of width `W`. -/
def Half (w : BitVec 32) (W : ℕ) : Prop := ∀ t : Fin 128,
  IntOp.cmpi CmpIPredicate.eq (IntOp.andi (IntOp.shrsi ArithUnit.vector (BitVec.ofNat 32 t.val) w) 1#32) 1#32 = if t.val / W % 2 = 1 then 1#1 else 0#1

/-- The word that tells a pair of positions covered at width `W`. -/
def Covered (w : BitVec 32) (W : ℕ) : Prop := ∀ t s : Fin 128,
  IntOp.andi (IntOp.cmpi CmpIPredicate.sgt (BitVec.ofNat 32 t.val) (BitVec.ofNat 32 s.val))
    (IntOp.cmpi CmpIPredicate.eq (IntOp.shrsi ArithUnit.vector (IntOp.xori (BitVec.ofNat 32 t.val) (BitVec.ofNat 32 s.val)) w) 1#32)
    = if pair W t.val s.val then 1#1 else 0#1

theorem half0 : Half 0#32 1 := by unfold Half; decide +kernel
theorem half1 : Half 1#32 2 := by unfold Half; decide +kernel
theorem half2 : Half 2#32 4 := by unfold Half; decide +kernel
theorem half3 : Half 3#32 8 := by unfold Half; decide +kernel
theorem half4 : Half 4#32 16 := by unfold Half; decide +kernel
theorem half5 : Half 5#32 32 := by unfold Half; decide +kernel
theorem half6 : Half 6#32 64 := by unfold Half; decide +kernel
theorem covered0 : Covered 0#32 1 := by unfold Covered; decide +kernel
theorem covered1 : Covered 1#32 2 := by unfold Covered; decide +kernel
theorem covered2 : Covered 2#32 4 := by unfold Covered; decide +kernel
theorem covered3 : Covered 3#32 8 := by unfold Covered; decide +kernel
theorem covered4 : Covered 4#32 16 := by unfold Covered; decide +kernel
theorem covered5 : Covered 5#32 32 := by unfold Covered; decide +kernel
theorem covered6 : Covered 6#32 64 := by unfold Covered; decide +kernel

/-- The word of equal positions. -/
theorem equal_word : ∀ t s : Fin 128, IntOp.cmpi CmpIPredicate.eq (BitVec.ofNat 32 t.val) (BitVec.ofNat 32 s.val) = if t.val = s.val then 1#1 else 0#1 := by
  decide +kernel

/-- A choice by a word that tells a proposition. -/
theorem sel_ite {α : Type} (p : Prop) [Decidable p] (a b : α) : Scalar.select (if p then 1#1 else 0#1) a b = if p then a else b := by
  split <;> rfl

/-- A level's scaled rows. -/
theorem xl_at {Q K : FVec Ideal S1x128x512 .bf16} {L : FVec Ideal S1x128x512 .f32} (hQ : Holds B Q q) (hK : Holds B K k) (hL : Holds B L f)
    {P : Vec Ideal S128x128 .bf16} {p : ℕ → ℕ → Prop} [∀ t u, Decidable (p t u)] (hP : Marks P p) {w : BitVec 32} {W : ℕ} (hw : Half w W) (t : Fin 128) (j : Fin 512) :
    xl w (k0_pay4 (F := Ideal) Q) (k0_pay5 (F := Ideal) K) (k0_pay3 (F := Ideal) L) P (ix2 t j)
      = (((if t.val / W % 2 = 1 then q (B + t.val) j else k (B + t.val) j)
        * Real.exp (∑ u : Fin 128, (if p t.val u.val then (1 : ℝ) else 0) * f (B + u.val) j) : ℝ) : EReal) := by
  have e := ex B f hL hP t j
  unfold xl
  generalize k0_pay58 (F := Ideal) (k0_pay3 (F := Ideal) L) P = E at e ⊢
  pointwise [k0_pay4, k0_pay5]
  rw [e, hw t, sel_ite, hQ t j, hK t j, Ideal.exp_coe, EReal.coe_mul]
  congr 1
  split <;> rfl

/-- One level puts the scores of its pairs in place. -/
theorem step_at {Q K : FVec Ideal S1x128x512 .bf16} {L : FVec Ideal S1x128x512 .f32} (hQ : Holds B Q q) (hK : Holds B K k) (hL : Holds B L f)
    {P : Vec Ideal S128x128 .bf16} {W : ℕ} (hW : 0 < W) (hP : Marks P (sel W)) {w : BitVec 32} (hw : Half w W) (hc : Covered w W)
    (off : ℕ) (h : off ≤ 384) (ho : S128x512.Slices ![0, off] S128x128) (prev : FVec Ideal S128x128 .f32) (t s : Fin 128) :
    step w ![0, off] ho (xl w (k0_pay4 (F := Ideal) Q) (k0_pay5 (F := Ideal) K) (k0_pay3 (F := Ideal) L) P) prev (ix2 t s)
      = if pair W t.val s.val then ((score (hd off h q) (hd off h k) (hd off h f) (B + t.val) (B + s.val) : ℝ) : EReal) else prev (ix2 t s) := by
  have e := xl_at B q k f hQ hK hL hP hw
  generalize xl w (k0_pay4 (F := Ideal) Q) (k0_pay5 (F := Ideal) K) (k0_pay3 (F := Ideal) L) P = Y at e ⊢
  pointwise [step, mask]
  rw [hc t s, sel_ite]
  split
  · rename_i hp
    simp only [e, ← EReal.coe_mul, coe_sum]
    refine congrArg (fun r : ℝ => (r : EReal)) ?_
    exact level_score (hd off h q) (hd off h k) (hd off h f) B W t.val s.val hW t.isLt hp
      (fun r c => (if r / W % 2 = 1 then hd off h q (B + r) c else hd off h k (B + r) c)
        * Real.exp (∑ u : Fin 128, (if sel W r u.val then (1 : ℝ) else 0) * hd off h f (B + u.val) c)) (fun _ _ => rfl)
  · rfl

/-- The scores at equal positions, zero elsewhere. -/
theorem diag_at {Q K : FVec Ideal S1x128x512 .bf16} (hQ : Holds B Q q) (hK : Holds B K k)
    (off : ℕ) (h : off ≤ 384) (ho : S128x512.Slices ![0, off] S128x128) (t s : Fin 128) :
    diag ![0, off] ho (k0_pay8 (F := Ideal) Q) (k0_pay9 (F := Ideal) K) (ix2 t s)
      = if t.val = s.val then ((score (hd off h q) (hd off h k) (hd off h f) (B + t.val) (B + s.val) : ℝ) : EReal) else ((0 : ℝ) : EReal) := by
  pointwise [diag, k0_pay8, k0_pay9]
  rw [equal_word t s, sel_ite]
  split
  · rename_i hp
    rw [← hp, diag_score]
    obtain rfl : t = s := Fin.ext hp
    simp only [fun j => hQ t j, fun j => hK t j, ← EReal.coe_mul, coe_sum]
    rfl
  · rfl

/-- A chunk's blocks of the selector table: seven levels, the prefixes and the suffixes. -/
structure Table (P : Vec Ideal S1152x128 .bf16) : Prop where
  l0 : Marks (pl P 0 inb_S1152x128_S128x128_0_0) (sel 1)
  l1 : Marks (pl P 128 inb_S1152x128_S128x128_128_0) (sel 2)
  l2 : Marks (pl P 256 inb_S1152x128_S128x128_256_0) (sel 4)
  l3 : Marks (pl P 384 inb_S1152x128_S128x128_384_0) (sel 8)
  l4 : Marks (pl P 512 inb_S1152x128_S128x128_512_0) (sel 16)
  l5 : Marks (pl P 640 inb_S1152x128_S128x128_640_0) (sel 32)
  l6 : Marks (pl P 768 inb_S1152x128_S128x128_768_0) (sel 64)
  pre : Marks (pl P 896 inb_S1152x128_S128x128_896_0) (fun t u => u ≤ t)
  suf : Marks (pl P 1024 inb_S1152x128_S128x128_1024_0) (fun t u => t < u)

variable {Q K V : FVec Ideal S1x128x512 .bf16} {L : FVec Ideal S1x128x512 .f32} {P : Vec Ideal S1152x128 .bf16}
variable (off : ℕ) (h : off ≤ 384) (ho : S128x512.Slices ![0, off] S128x128) (ho' : S1x512.Slices ![0, off] S1x128)

/-- A head's scores over the chunk: each earlier or equal position's score, zero at later ones. -/
theorem sc_at (hQ : Holds B Q q) (hK : Holds B K k) (hL : Holds B L f) (hP : Table P) (t s : Fin 128) :
    sc ![0, off] ho Q K L P (ix2 t s)
      = (((if s.val ≤ t.val then score (hd off h q) (hd off h k) (hd off h f) (B + t.val) (B + s.val) else 0 : ℝ)) : EReal) := by
  unfold sc
  rw [step_at B q k f hQ hK hL (by decide) hP.l6 half6 covered6 off h ho, step_at B q k f hQ hK hL (by decide) hP.l5 half5 covered5 off h ho,
    step_at B q k f hQ hK hL (by decide) hP.l4 half4 covered4 off h ho, step_at B q k f hQ hK hL (by decide) hP.l3 half3 covered3 off h ho,
    step_at B q k f hQ hK hL (by decide) hP.l2 half2 covered2 off h ho, step_at B q k f hQ hK hL (by decide) hP.l1 half1 covered1 off h ho,
    step_at B q k f hQ hK hL (by decide) hP.l0 half0 covered0 off h ho, diag_at B q k f hQ hK off h ho]
  generalize score (hd off h q) (hd off h k) (hd off h f) (B + t.val) (B + s.val) = x
  rcases Nat.lt_trichotomy s.val t.val with hst | hst | hst
  · rw [if_pos (Nat.le_of_lt hst)]
    rcases some_level t s hst with a | a | a | a | a | a | a <;> simp only [if_pos a, ite_self]
    all_goals (repeat' split) <;> first | rfl | omega
  · rw [if_pos (Nat.le_of_eq hst)]
    have n : ∀ W, ¬ pair W t.val s.val := fun W a => by have := a.1; omega
    simp only [if_neg (n _), if_pos hst.symm]
  · have n : ∀ W, ¬ pair W t.val s.val := fun W a => by have := a.1; omega
    simp only [if_neg (n _), if_neg (show ¬ t.val = s.val by omega), if_neg (show ¬ s.val ≤ t.val by omega)]

/-- The prefix exponents. -/
theorem pre_at (hL : Holds B L f) (hP : Table P) (t : Fin 128) (j : Fin 512) :
    k0_pay58 (F := Ideal) (k0_pay3 (F := Ideal) L) (pl P 896 inb_S1152x128_S128x128_896_0) (ix2 t j)
      = ((A (fun u => f u j) (B + t.val + 1) - A (fun u => f u j) B : ℝ) : EReal) := by
  rw [ex B f hL hP.pre t j]
  refine congrArg (fun r : ℝ => (r : EReal)) ?_
  exact window (fun u => f u j) B 0 (t.val + 1) (by omega) (by omega) (fun u => u ≤ t.val) (fun u _ => by omega)

/-- The suffix exponents. -/
theorem suf_at (hL : Holds B L f) (hP : Table P) (t : Fin 128) (j : Fin 512) :
    k0_pay58 (F := Ideal) (k0_pay3 (F := Ideal) L) (pl P 1024 inb_S1152x128_S128x128_1024_0) (ix2 t j)
      = ((A (fun u => f u j) (B + 128) - A (fun u => f u j) (B + t.val + 1) : ℝ) : EReal) := by
  rw [ex B f hL hP.suf t j]
  refine congrArg (fun r : ℝ => (r : EReal)) ?_
  exact window (fun u => f u j) B (t.val + 1) 128 (by omega) (by omega) (fun u => t.val < u) (fun u _ => by omega)

/-- The scaled queries. -/
theorem qe_at (hQ : Holds B Q q) (hL : Holds B L f) (hP : Table P) (t : Fin 128) (j : Fin 512) :
    qe Q L P (ix2 t j) = ((q (B + t.val) j * Real.exp (A (fun u => f u j) (B + t.val + 1) - A (fun u => f u j) B) : ℝ) : EReal) := by
  have e := pre_at B f hL hP t j
  unfold qe
  pointwise [k0_pay59, k0_pay4]
  rw [e, hQ t j, Ideal.exp_coe, EReal.coe_mul]

/-- The scaled keys. -/
theorem kd_at (hK : Holds B K k) (hL : Holds B L f) (hP : Table P) (t : Fin 128) (j : Fin 512) :
    kd K L P (ix2 t j) = ((k (B + t.val) j * Real.exp (A (fun u => f u j) (B + 128) - A (fun u => f u j) (B + t.val + 1)) : ℝ) : EReal) := by
  have e := suf_at B f hL hP t j
  have e' : kd K L P (ix2 t j) = K (ix3 0 t j) * Ideal.exp (k0_pay58 (F := Ideal) (k0_pay3 (F := Ideal) L) (pl P 1024 inb_S1152x128_S128x128_1024_0) (ix2 t j)) := by
    unfold kd
    generalize pl P 1024 inb_S1152x128_S128x128_1024_0 = R
    generalize k0_pay3 (F := Ideal) L = X
    pointwise [k0_pay60, k0_pay5, k0_pay58]
  rw [e', e, hK t j, Ideal.exp_coe, EReal.coe_mul]

/-- The chunk's decay. -/
theorem dr_at (hL : Holds B L f) (hP : Table P) (j : Fin 512) :
    dr L P (ix2 0 j) = ((Real.exp (A (fun u => f u j) (B + 128) - A (fun u => f u j) B) : ℝ) : EReal) := by
  have e := pre_at B f hL hP 127 j
  unfold dr
  pointwise [k0_pay61]
  rw [e, Ideal.exp_coe]
  rfl

end Cert.HgPay

end
-- ==== Proof.HgHead.lean ====
/- One head of the recurrence over one chunk: its output and the state it leaves, as closed sums over the tokens. -/
module

public import proofs.«01_k».proof.Proof.HgPay

@[expose] public section

set_option maxRecDepth 16384

noncomputable section

namespace Cert.HgHead

open Idealize.ShloMosaic Idealize.ShloMosaic.TcCoe Idealize.SL.Sem
open Cert.Kernel3Ideal Cert.Kernel3Ideal.Gen Cert.HgWord Cert.HgMath Cert.HgPay
open scoped BigOperators

variable (B : ℕ) (q k f v : ℕ → Fin 512 → ℝ)
variable {Q K V : FVec Ideal S1x128x512 .bf16} {L : FVec Ideal S1x128x512 .f32} {P : Vec Ideal S1152x128 .bf16}
variable (off : ℕ) (h : off ≤ 384) (ho : S128x512.Slices ![0, off] S128x128) (ho' : S1x512.Slices ![0, off] S1x128)

/-- A head's state holds the closed sums over the tokens before `n`. -/
def State (n : ℕ) (Z : Vec Ideal S1x128x128 .f32) : Prop := ∀ c x : Fin 128, Z (ix3 0 c x)
  = ((st (fun u => hd off h k u x) (fun u => hd off h f u x) (fun u => hd off h v u c) n : ℝ) : EReal)

/-- A head's output is the closed sum over every token up to it. -/
theorem oh_at (hQ : Holds B Q q) (hK : Holds B K k) (hL : Holds B L f) (hV : Holds B V v) (hP : Table P) {Z : Vec Ideal S1x128x128 .f32}
    (hZ : State k f v off h B Z) (t c : Fin 128) :
    oh ![0, off] ho Q K L V P Z (ix2 t c)
      = ((out (hd off h q) (hd off h k) (hd off h f) (fun u => hd off h v u c) (B + t.val) : ℝ) : EReal) := by
  have e1 := sc_at B q k f off h ho hQ hK hL hP t
  have e2 := qe_at B q f hQ hL hP t
  unfold oh
  generalize sc ![0, off] ho Q K L P = S at e1 ⊢
  generalize qe Q L P = R at e2 ⊢
  pointwise [k0_pay6]
  refine (congrArg₂ (· + ·) (Finset.sum_congr rfl fun x _ => congrArg₂ (· * ·) (e1 x) (hV x _)) (Finset.sum_congr rfl fun x _ => congrArg₂ (· * ·) (e2 _) (hZ c x))).trans ?_
  simp only [← EReal.coe_mul, coe_sum, ← EReal.coe_add]
  rw [out_chunk _ _ _ _ B t.val t.isLt]
  rfl

/-- A head's state after the chunk. -/
theorem sh_at (hK : Holds B K k) (hL : Holds B L f) (hV : Holds B V v) (hP : Table P) {Z : Vec Ideal S1x128x128 .f32}
    (hZ : State k f v off h B Z) : State k f v off h (B + 128) (sh ![0, off] ho ho' K L V P Z) := by
  intro c x
  have e1 := kd_at B k f hK hL hP
  have e2 := dr_at B f hL hP
  unfold sh
  generalize kd K L P = S at e1 ⊢
  generalize dr L P = R at e2 ⊢
  pointwise [k0_pay6]
  refine (congrArg₂ (· + ·) (congrArg₂ (· * ·) (hZ c x) (e2 _)) (Finset.sum_congr rfl fun u _ => congrArg₂ (· * ·) (hV u _) (e1 u _))).trans ?_
  simp only [← EReal.coe_mul, coe_sum, ← EReal.coe_add]
  rw [st_step]
  rfl

/-- A head's normalised, scaled and gated output. -/
theorem nh_at (O : FVec Ideal S128x128 .f32) (g : Vec Ideal S1x128x512 .bf16) (n : Vec Ideal S1x128 .f32) (t c : Fin 128) :
    nh ![0, off] ho O g n (ix2 t c)
      = O (ix2 t c) * Ideal.rsqrt (Ideal.div (∑ x : Fin 128, O (ix2 t x) * O (ix2 t x)) (Ideal.ofBits FTy.f32 1124073472#32) + Ideal.ofBits FTy.f32 897988541#32)
        * n (ix2 0 c) * g (ix3 0 t ⟨off + c.val, by omega⟩) := by
  pointwise [nh, k0_pay62]

end Cert.HgHead

end
-- ==== Proof.HgPick.lean ====
/- Which tokens a level's row of the selector table picks, as a truth value. -/
module

public import proofs.«01_k».proof.Kernel3Ideal
public import Mathlib.Tactic.IntervalCases

@[expose] public section

set_option maxRecDepth 16384

namespace Cert.HgPick

/-- Whether the level of half blocks of `w` tokens picks token `u` for token `i`. -/
def pick (w i u : ℕ) : Bool := bif Nat.beq (i / w % 2) 1 then Nat.ble (i / w * w) u && Nat.ble u i else Nat.blt i u && Nat.blt u (i / w * w + w)

/-- A bit in the table's format. -/
def mark (b : Bool) : BitVec 16 := bif b then 0x3F80#16 else 0x0000#16

/-- A choice by a base-128 digit, each choice the value of one function at the digit, is that function's value. -/
theorem digit (h : ℕ → BitVec 16) (d : ℕ) : d < 128 → (match d with
    | 0 => h 0
    | 1 => h 1
    | 2 => h 2
    | 3 => h 3
    | 4 => h 4
    | 5 => h 5
    | 6 => h 6
    | 7 => h 7
    | 8 => h 8
    | 9 => h 9
    | 10 => h 10
    | 11 => h 11
    | 12 => h 12
    | 13 => h 13
    | 14 => h 14
    | 15 => h 15
    | 16 => h 16
    | 17 => h 17
    | 18 => h 18
    | 19 => h 19
    | 20 => h 20
    | 21 => h 21
    | 22 => h 22
    | 23 => h 23
    | 24 => h 24
    | 25 => h 25
    | 26 => h 26
    | 27 => h 27
    | 28 => h 28
    | 29 => h 29
    | 30 => h 30
    | 31 => h 31
    | 32 => h 32
    | 33 => h 33
    | 34 => h 34
    | 35 => h 35
    | 36 => h 36
    | 37 => h 37
    | 38 => h 38
    | 39 => h 39
    | 40 => h 40
    | 41 => h 41
    | 42 => h 42
    | 43 => h 43
    | 44 => h 44
    | 45 => h 45
    | 46 => h 46
    | 47 => h 47
    | 48 => h 48
    | 49 => h 49
    | 50 => h 50
    | 51 => h 51
    | 52 => h 52
    | 53 => h 53
    | 54 => h 54
    | 55 => h 55
    | 56 => h 56
    | 57 => h 57
    | 58 => h 58
    | 59 => h 59
    | 60 => h 60
    | 61 => h 61
    | 62 => h 62
    | 63 => h 63
    | 64 => h 64
    | 65 => h 65
    | 66 => h 66
    | 67 => h 67
    | 68 => h 68
    | 69 => h 69
    | 70 => h 70
    | 71 => h 71
    | 72 => h 72
    | 73 => h 73
    | 74 => h 74
    | 75 => h 75
    | 76 => h 76
    | 77 => h 77
    | 78 => h 78
    | 79 => h 79
    | 80 => h 80
    | 81 => h 81
    | 82 => h 82
    | 83 => h 83
    | 84 => h 84
    | 85 => h 85
    | 86 => h 86
    | 87 => h 87
    | 88 => h 88
    | 89 => h 89
    | 90 => h 90
    | 91 => h 91
    | 92 => h 92
    | 93 => h 93
    | 94 => h 94
    | 95 => h 95
    | 96 => h 96
    | 97 => h 97
    | 98 => h 98
    | 99 => h 99
    | 100 => h 100
    | 101 => h 101
    | 102 => h 102
    | 103 => h 103
    | 104 => h 104
    | 105 => h 105
    | 106 => h 106
    | 107 => h 107
    | 108 => h 108
    | 109 => h 109
    | 110 => h 110
    | 111 => h 111
    | 112 => h 112
    | 113 => h 113
    | 114 => h 114
    | 115 => h 115
    | 116 => h 116
    | 117 => h 117
    | 118 => h 118
    | 119 => h 119
    | 120 => h 120
    | 121 => h 121
    | 122 => h 122
    | 123 => h 123
    | 124 => h 124
    | 125 => h 125
    | 126 => h 126
    | 127 => h 127
    | _ => 0#16) = h d := by
  intro hd
  interval_cases d <;> rfl

end Cert.HgPick

end
-- ==== Proof.HgLit0.lean ====
/- Block 0 of the selector table's constant. -/
module

public import proofs.«01_k».proof.Proof.HgPick

@[expose] public section

set_option maxRecDepth 16384

namespace Cert.HgPick

open Cert.Kernel3Ideal

/-- The constant's words in the rows of the level of half blocks of 1 tokens. -/
theorem words0 (n : ℕ) : lit0t1_0 n = mark (pick 1 (n / 128 % 128) (n % 128)) := by
  unfold lit0t1_0
  have hd : n / 128 % 128 < 128 := Nat.mod_lt _ (by decide)
  generalize n / 128 % 128 = d at hd ⊢
  interval_cases d
  all_goals
    refine Eq.trans ?_ (digit (fun u => mark (pick 1 _ u)) (n % 128) (Nat.mod_lt _ (by decide)))
    rfl

end Cert.HgPick

end
-- ==== Proof.HgLit1.lean ====
/- Block 1 of the selector table's constant. -/
module

public import proofs.«01_k».proof.Proof.HgPick

@[expose] public section

set_option maxRecDepth 16384

namespace Cert.HgPick

open Cert.Kernel3Ideal

/-- The constant's words in the rows of the level of half blocks of 2 tokens. -/
theorem words1 (n : ℕ) : lit0t1_1 n = mark (pick 2 (n / 128 % 128) (n % 128)) := by
  unfold lit0t1_1
  have hd : n / 128 % 128 < 128 := Nat.mod_lt _ (by decide)
  generalize n / 128 % 128 = d at hd ⊢
  interval_cases d
  all_goals
    refine Eq.trans ?_ (digit (fun u => mark (pick 2 _ u)) (n % 128) (Nat.mod_lt _ (by decide)))
    rfl

end Cert.HgPick

end
-- ==== Proof.HgLit2.lean ====
/- Block 2 of the selector table's constant. -/
module

public import proofs.«01_k».proof.Proof.HgPick

@[expose] public section

set_option maxRecDepth 16384

namespace Cert.HgPick

open Cert.Kernel3Ideal

/-- The constant's words in the rows of the level of half blocks of 4 tokens. -/
theorem words2 (n : ℕ) : lit0t1_2 n = mark (pick 4 (n / 128 % 128) (n % 128)) := by
  unfold lit0t1_2
  have hd : n / 128 % 128 < 128 := Nat.mod_lt _ (by decide)
  generalize n / 128 % 128 = d at hd ⊢
  interval_cases d
  all_goals
    refine Eq.trans ?_ (digit (fun u => mark (pick 4 _ u)) (n % 128) (Nat.mod_lt _ (by decide)))
    rfl

end Cert.HgPick

end
-- ==== Proof.HgLit3.lean ====
/- Block 3 of the selector table's constant. -/
module

public import proofs.«01_k».proof.Proof.HgPick

@[expose] public section

set_option maxRecDepth 16384

namespace Cert.HgPick

open Cert.Kernel3Ideal

/-- The constant's words in the rows of the level of half blocks of 8 tokens. -/
theorem words3 (n : ℕ) : lit0t1_3 n = mark (pick 8 (n / 128 % 128) (n % 128)) := by
  unfold lit0t1_3
  have hd : n / 128 % 128 < 128 := Nat.mod_lt _ (by decide)
  generalize n / 128 % 128 = d at hd ⊢
  interval_cases d
  all_goals
    refine Eq.trans ?_ (digit (fun u => mark (pick 8 _ u)) (n % 128) (Nat.mod_lt _ (by decide)))
    rfl

end Cert.HgPick

end
-- ==== Proof.HgLit4.lean ====
/- Block 4 of the selector table's constant. -/
module

public import proofs.«01_k».proof.Proof.HgPick

@[expose] public section

set_option maxRecDepth 16384

namespace Cert.HgPick

open Cert.Kernel3Ideal

/-- The constant's words in the rows of the level of half blocks of 16 tokens. -/
theorem words4 (n : ℕ) : lit0t1_4 n = mark (pick 16 (n / 128 % 128) (n % 128)) := by
  unfold lit0t1_4
  have hd : n / 128 % 128 < 128 := Nat.mod_lt _ (by decide)
  generalize n / 128 % 128 = d at hd ⊢
  interval_cases d
  all_goals
    refine Eq.trans ?_ (digit (fun u => mark (pick 16 _ u)) (n % 128) (Nat.mod_lt _ (by decide)))
    rfl

end Cert.HgPick

end
-- ==== Proof.HgLit5.lean ====
/- Block 5 of the selector table's constant. -/
module

public import proofs.«01_k».proof.Proof.HgPick

@[expose] public section

set_option maxRecDepth 16384

namespace Cert.HgPick

open Cert.Kernel3Ideal

/-- The constant's words in the rows of the level of half blocks of 32 tokens. -/
theorem words5 (n : ℕ) : lit0t1_5 n = mark (pick 32 (n / 128 % 128) (n % 128)) := by
  unfold lit0t1_5
  have hd : n / 128 % 128 < 128 := Nat.mod_lt _ (by decide)
  generalize n / 128 % 128 = d at hd ⊢
  interval_cases d
  all_goals
    refine Eq.trans ?_ (digit (fun u => mark (pick 32 _ u)) (n % 128) (Nat.mod_lt _ (by decide)))
    rfl

end Cert.HgPick

end
-- ==== Proof.HgLit6.lean ====
/- Block 6 of the selector table's constant. -/
module

public import proofs.«01_k».proof.Proof.HgPick

@[expose] public section

set_option maxRecDepth 16384

namespace Cert.HgPick

open Cert.Kernel3Ideal

/-- The constant's words in the rows of the level of half blocks of 64 tokens. -/
theorem words6 (n : ℕ) : lit0t1_6 n = mark (pick 64 (n / 128 % 128) (n % 128)) := by
  unfold lit0t1_6
  have hd : n / 128 % 128 < 128 := Nat.mod_lt _ (by decide)
  generalize n / 128 % 128 = d at hd ⊢
  interval_cases d
  all_goals
    refine Eq.trans ?_ (digit (fun u => mark (pick 64 _ u)) (n % 128) (Nat.mod_lt _ (by decide)))
    rfl

end Cert.HgPick

end
-- ==== Proof.HgLit7.lean ====
/- Block 7 of the selector table's constant. -/
module

public import proofs.«01_k».proof.Proof.HgPick

@[expose] public section

set_option maxRecDepth 16384

namespace Cert.HgPick

open Cert.Kernel3Ideal

/-- The constant's words in the rows of the sums up to a token. -/
theorem words7 (n : ℕ) : lit0t1_7 n = mark (Nat.ble (n % 128) (n / 128 % 128)) := by
  unfold lit0t1_7
  have hd : n / 128 % 128 < 128 := Nat.mod_lt _ (by decide)
  generalize n / 128 % 128 = d at hd ⊢
  interval_cases d
  all_goals
    refine Eq.trans ?_ (digit (fun u => mark (Nat.ble u _)) (n % 128) (Nat.mod_lt _ (by decide)))
    rfl

end Cert.HgPick

end
-- ==== Proof.HgLit8.lean ====
/- Block 8 of the selector table's constant. -/
module

public import proofs.«01_k».proof.Proof.HgPick

@[expose] public section

set_option maxRecDepth 16384

namespace Cert.HgPick

open Cert.Kernel3Ideal

/-- The constant's words in the rows of the sums after a token. -/
theorem words8 (n : ℕ) : lit0t1_8 n = mark (Nat.blt (n / 128 % 128) (n % 128)) := by
  unfold lit0t1_8
  have hd : n / 128 % 128 < 128 := Nat.mod_lt _ (by decide)
  generalize n / 128 % 128 = d at hd ⊢
  interval_cases d
  all_goals
    refine Eq.trans ?_ (digit (fun u => mark (Nat.blt _ u)) (n % 128) (Nat.mod_lt _ (by decide)))
    rfl

end Cert.HgPick

end
-- ==== Proof.HgTab.lean ====
/- The recurrence's selector table, and the blocks a point reads. -/
module

public import proofs.«01_k».proof.Proof.HgPay
public import proofs.«01_k».proof.Proof.HgLit0
public import proofs.«01_k».proof.Proof.HgLit1
public import proofs.«01_k».proof.Proof.HgLit2
public import proofs.«01_k».proof.Proof.HgLit3
public import proofs.«01_k».proof.Proof.HgLit4
public import proofs.«01_k».proof.Proof.HgLit5
public import proofs.«01_k».proof.Proof.HgLit6
public import proofs.«01_k».proof.Proof.HgLit7
public import proofs.«01_k».proof.Proof.HgLit8
public import Idealize.ShloMosaic.Lib.Pipeline.ValueKit

@[expose] public section

set_option maxRecDepth 16384

noncomputable section

namespace Cert.HgTab

open Idealize.ShloMosaic Idealize.ShloMosaic.TcCoe Idealize.SL.Sem
open Idealize.ShloMosaic.WordCmp
open Idealize.ShloMosaic.Pipeline (Dat)
open Cert.Kernel3Ideal Cert.Kernel3Ideal.Gen Cert.HgMath Cert.HgWord Cert.HgPay Cert.HgPick

variable (m : (ℓ : Loc nD τ sig) → Buf (Elt Ideal) ℓ) (c : Dev nD)

/-- Two indices of a three-axis shape with the same coordinates are equal. -/
theorem ext3 {n0 n1 n2 : ℕ} {x y : (⟨3, ![n0, n1, n2]⟩ : Shape).Idx} (h0 : (x 0).val = (y 0).val) (h1 : (x 1).val = (y 1).val)
    (h2 : (x 2).val = (y 2).val) : x = y :=
  funext fun a => match a with | ⟨0, _⟩ => Fin.ext h0 | ⟨1, _⟩ => Fin.ext h1 | ⟨2, _⟩ => Fin.ext h2

/-- The block index of every window at every grid point. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 0] ∧ win0_4.index t = ![t.val / 32, t.val % 32, 0]
    ∧ win0_5.index t = ![0, 0] ∧ win0_6.index t = ![0, 0] ∧ win0_7.index t = ![t.val / 32, t.val % 32, 0] :=
  (by decide +kernel : ∀ t : Fin grid0.N, _)

theorem point_lt (t : Fin cfg0.N) : t.val < 256 := t.isLt

/-- The queries' block at a point. -/
theorem q_at (t : Fin cfg0.N) (u : Fin 128) (j : Fin 512) : (iblk m c 0 t : S1x128x512.Idx → EReal) (ix3 0 u j)
    = (m (c, Proc.tc.devRef main_arg0) : S8x4096x512.Idx → EReal) (ix3 ⟨t.val / 32, by have := point_lt t; omega⟩ ⟨128 * (t.val % 32) + u.val, by omega⟩ j) := by
  blk_simp [iblk]
  entry_read
  pointwise []
  refine congrArg (m (c, Proc.tc.devRef main_arg0)) (ext3 ?_ ?_ ?_)
  all_goals (blk_simp [idx t]; try simp only []; try omega)

/-- The keys' block at a point. -/
theorem k_at (t : Fin cfg0.N) (u : Fin 128) (j : Fin 512) : (iblk m c 1 t : S1x128x512.Idx → EReal) (ix3 0 u j)
    = (m (c, Proc.tc.devRef main_arg1) : S8x4096x512.Idx → EReal) (ix3 ⟨t.val / 32, by have := point_lt t; omega⟩ ⟨128 * (t.val % 32) + u.val, by omega⟩ j) := by
  blk_simp [iblk]
  entry_read
  pointwise []
  refine congrArg (m (c, Proc.tc.devRef main_arg1)) (ext3 ?_ ?_ ?_)
  all_goals (blk_simp [idx t]; try simp only []; try omega)

/-- The log forget gates' block at a point. -/
theorem f_at (t : Fin cfg0.N) (u : Fin 128) (j : Fin 512) : (iblk m c 2 t : S1x128x512.Idx → EReal) (ix3 0 u j)
    = (m (c, Proc.tc.devRef main_arg2) : S8x4096x512.Idx → EReal) (ix3 ⟨t.val / 32, by have := point_lt t; omega⟩ ⟨128 * (t.val % 32) + u.val, by omega⟩ j) := by
  blk_simp [iblk]
  entry_read
  pointwise []
  refine congrArg (m (c, Proc.tc.devRef main_arg2)) (ext3 ?_ ?_ ?_)
  all_goals (blk_simp [idx t]; try simp only []; try omega)

/-- The values' block at a point. -/
theorem v_at (t : Fin cfg0.N) (u : Fin 128) (j : Fin 512) : (iblk m c 3 t : S1x128x512.Idx → EReal) (ix3 0 u j)
    = (m (c, Proc.tc.devRef main_arg3) : S8x4096x512.Idx → EReal) (ix3 ⟨t.val / 32, by have := point_lt t; omega⟩ ⟨128 * (t.val % 32) + u.val, by omega⟩ j) := by
  blk_simp [iblk]
  entry_read
  pointwise []
  refine congrArg (m (c, Proc.tc.devRef main_arg3)) (ext3 ?_ ?_ ?_)
  all_goals (blk_simp [idx t]; try simp only []; try omega)

/-- The output gates' block at a point. -/
theorem g_at (t : Fin cfg0.N) (u : Fin 128) (j : Fin 512) : (iblk m c 4 t : S1x128x512.Idx → EReal) (ix3 0 u j)
    = (m (c, Proc.tc.devRef main_arg4) : S8x4096x512.Idx → EReal) (ix3 ⟨t.val / 32, by have := point_lt t; omega⟩ ⟨128 * (t.val % 32) + u.val, by omega⟩ j) := by
  blk_simp [iblk]
  entry_read
  pointwise []
  refine congrArg (m (c, Proc.tc.devRef main_arg4)) (ext3 ?_ ?_ ?_)
  all_goals (blk_simp [idx t]; try simp only []; try omega)

/-- Two indices of a two-axis shape with the same coordinates are equal. -/
theorem ext2 {n0 n1 : ℕ} {x y : (⟨2, ![n0, n1]⟩ : Shape).Idx} (h0 : (x 0).val = (y 0).val) (h1 : (x 1).val = (y 1).val) : x = y :=
  funext fun a => match a with | ⟨0, _⟩ => Fin.ext h0 | ⟨1, _⟩ => Fin.ext h1

/-- The normalisation gain's block at a point. -/
theorem gain_at (t : Fin cfg0.N) (j : Fin 128) : (iblk m c 6 t : S1x128.Idx → EReal) (ix2 0 j)
    = (m (c, Proc.tc.devRef main_arg5) : S1x128.Idx → EReal) (ix2 0 j) := by
  blk_simp [iblk]
  unfold V
  simp only [hostOps0, List.flatten_cons, List.flatten_nil, List.append_nil, List.cons_append, List.nil_append]
  entry_read
  pointwise []
  refine congrArg (m (c, Proc.tc.devRef main_arg5)) (ext2 ?_ ?_)
  all_goals (blk_simp [idx t]; try simp only []; try omega)

/-- The table as the launch leaves it. -/
theorem table_word (i : Fin 1152) (u : Fin 128) : (V m c main_cst : S1152x128.Idx → EReal) (ix2 i u)
    = (FloatOps.ofBits .bf16 (lit0t (i.val * 128 + u.val)) : Ideal .bf16) := by
  unfold V
  simp only [hostOps0, List.flatten_cons, List.flatten_nil, List.append_nil, List.cons_append, List.nil_append]
  entry_read
  have e : (S1152x128.rowMajor (ix2 i u)).val = i.val * 128 + u.val := Shape.rowMajor_val_two (ix2 i u)
  exact congrArg (fun n : ℕ => (FloatOps.ofBits .bf16 (lit0t n) : Ideal .bf16)) e

/-- The table's block at a point is the whole table. -/
theorem table_at (t : Fin cfg0.N) (i : Fin 1152) (u : Fin 128) : (iblk m c 5 t : S1152x128.Idx → EReal) (ix2 i u)
    = (FloatOps.ofBits .bf16 (lit0t (i.val * 128 + u.val)) : Ideal .bf16) := by
  refine Eq.trans ?_ (table_word m c i u)
  blk_simp [iblk]
  refine congrArg (V m c main_cst) (ext2 ?_ ?_)
  all_goals (blk_simp [idx t]; try simp only []; try omega)

/-- A bit as a real number. -/
theorem bit_real (p : Prop) [Decidable p] : (FloatOps.uitofp .f32 (if p then 1#1 else 0#1) : Ideal .f32) = (((if p then (1 : ℝ) else 0) : ℝ) : EReal) := by
  split
  · show (((BitVec.toNat 1#1 : ℕ) : ℝ) : EReal) = ((1 : ℝ) : EReal)
    simp
  · show (((BitVec.toNat 0#1 : ℕ) : ℝ) : EReal) = ((0 : ℝ) : EReal)
    simp

/-- A mark's word as a real number. -/
theorem mark_real (a : Bool) (p : Prop) [Decidable p] (h : a = true ↔ p) :
    (FloatOps.ofBits .bf16 (mark a) : Ideal .bf16) = (((if p then (1 : ℝ) else 0) : ℝ) : EReal) := by
  by_cases hp : p
  · rw [if_pos hp, h.mpr hp]
    show Ideal.ofBits .bf16 0x3F80#16 = ((1 : ℝ) : EReal)
    simp [Ideal.ofBits, Ideal.ieee]
    rw [← EReal.coe_mul, ← EReal.coe_one]
    norm_num
  · rw [if_neg hp]
    cases a
    · show Ideal.ofBits .bf16 0x0000#16 = ((0 : ℝ) : EReal)
      simp [Ideal.ofBits, Ideal.ieee]
    · exact absurd (h.mp rfl) hp

/-- A truth value's bit. -/
theorem bool_bit (a : Bool) (p : Prop) [Decidable p] (h : a = true ↔ p) : BitVec.ofBool a = if p then 1#1 else 0#1 := by
  by_cases hp : p
  · rw [if_pos hp, h.mpr hp]
    rfl
  · rw [if_neg hp]
    cases a
    · rfl
    · exact absurd (h.mp rfl) hp

/-- The rows of the table from a multiple of 128 mark what their words tell. -/
theorem marks (t : Fin cfg0.N) (r : ℕ) (hr : r ≤ 1024) (inb : ∀ a, (![r, 0] : Fin 2 → ℕ) a + S128x128.size a ≤ S1152x128.size a) (p : ℕ → ℕ → Prop) [∀ t u, Decidable (p t u)]
    (b : ℕ → ℕ → Bool) (hb : ∀ i u : Fin 128, b i.val u.val = true ↔ p i.val u.val)
    (h : ∀ i u : Fin 128, lit0t ((r + i.val) * 128 + u.val) = mark (b i.val u.val)) :
    Marks (pl (iblk m c 5 t) r inb) p := by
  intro i u
  rw [← mark_real (b i.val u.val) (p i.val u.val) (hb i u), ← h i u]
  refine Eq.trans ?_ (table_at m c t ⟨r + i.val, by omega⟩ u)
  pointwise [pl]

/-- A level's picks are the pairs its sums run over. -/
theorem pick_iff (w i u : ℕ) (hw : 0 < w) : pick w i u = true ↔ sel w i u := by
  unfold pick sel
  generalize i / w * w = z
  generalize hy : i / w % 2 = y
  have hy2 : y < 2 := by omega
  rw [Bool.cond_eq_ite]
  by_cases h : y = 1
  · rw [if_pos (by rw [h]; rfl)]
    simp only [Bool.and_eq_true, Nat.ble_eq]
    omega
  · rw [if_neg (fun hh => h (Nat.eq_of_beq_eq_true hh))]
    simp only [Bool.and_eq_true, Nat.blt_eq]
    omega

/-- The three digits of an entry's number. -/
theorem digits (b i u : ℕ) (hi : i < 128) (hu : u < 128) : ((128 * b + i) * 128 + u) / 16384 = b ∧ ((128 * b + i) * 128 + u) / 128 % 128 = i
    ∧ ((128 * b + i) * 128 + u) % 128 = u := by
  omega

/-- The words of the table's block 0. -/
theorem block0 (i u : Fin 128) : lit0t ((0 + i.val) * 128 + u.val) = mark (pick 1 i.val u.val) := by
  obtain ⟨h0, h1, h2⟩ := digits 0 i.val u.val i.isLt u.isLt
  have e := words0 ((0 + i.val) * 128 + u.val)
  rw [show (128 * 0 + i.val) = 0 + i.val from by omega] at h0 h1 h2
  rw [h1, h2] at e
  rw [← e]
  unfold lit0t
  rw [h0]
  rfl

/-- The words of the table's block 1. -/
theorem block1 (i u : Fin 128) : lit0t ((128 + i.val) * 128 + u.val) = mark (pick 2 i.val u.val) := by
  obtain ⟨h0, h1, h2⟩ := digits 1 i.val u.val i.isLt u.isLt
  have e := words1 ((128 + i.val) * 128 + u.val)
  rw [show (128 * 1 + i.val) = 128 + i.val from by omega] at h0 h1 h2
  rw [h1, h2] at e
  rw [← e]
  unfold lit0t
  rw [h0]
  rfl

/-- The words of the table's block 2. -/
theorem block2 (i u : Fin 128) : lit0t ((256 + i.val) * 128 + u.val) = mark (pick 4 i.val u.val) := by
  obtain ⟨h0, h1, h2⟩ := digits 2 i.val u.val i.isLt u.isLt
  have e := words2 ((256 + i.val) * 128 + u.val)
  rw [show (128 * 2 + i.val) = 256 + i.val from by omega] at h0 h1 h2
  rw [h1, h2] at e
  rw [← e]
  unfold lit0t
  rw [h0]
  rfl

/-- The words of the table's block 3. -/
theorem block3 (i u : Fin 128) : lit0t ((384 + i.val) * 128 + u.val) = mark (pick 8 i.val u.val) := by
  obtain ⟨h0, h1, h2⟩ := digits 3 i.val u.val i.isLt u.isLt
  have e := words3 ((384 + i.val) * 128 + u.val)
  rw [show (128 * 3 + i.val) = 384 + i.val from by omega] at h0 h1 h2
  rw [h1, h2] at e
  rw [← e]
  unfold lit0t
  rw [h0]
  rfl

/-- The words of the table's block 4. -/
theorem block4 (i u : Fin 128) : lit0t ((512 + i.val) * 128 + u.val) = mark (pick 16 i.val u.val) := by
  obtain ⟨h0, h1, h2⟩ := digits 4 i.val u.val i.isLt u.isLt
  have e := words4 ((512 + i.val) * 128 + u.val)
  rw [show (128 * 4 + i.val) = 512 + i.val from by omega] at h0 h1 h2
  rw [h1, h2] at e
  rw [← e]
  unfold lit0t
  rw [h0]
  rfl

/-- The words of the table's block 5. -/
theorem block5 (i u : Fin 128) : lit0t ((640 + i.val) * 128 + u.val) = mark (pick 32 i.val u.val) := by
  obtain ⟨h0, h1, h2⟩ := digits 5 i.val u.val i.isLt u.isLt
  have e := words5 ((640 + i.val) * 128 + u.val)
  rw [show (128 * 5 + i.val) = 640 + i.val from by omega] at h0 h1 h2
  rw [h1, h2] at e
  rw [← e]
  unfold lit0t
  rw [h0]
  rfl

/-- The words of the table's block 6. -/
theorem block6 (i u : Fin 128) : lit0t ((768 + i.val) * 128 + u.val) = mark (pick 64 i.val u.val) := by
  obtain ⟨h0, h1, h2⟩ := digits 6 i.val u.val i.isLt u.isLt
  have e := words6 ((768 + i.val) * 128 + u.val)
  rw [show (128 * 6 + i.val) = 768 + i.val from by omega] at h0 h1 h2
  rw [h1, h2] at e
  rw [← e]
  unfold lit0t
  rw [h0]
  rfl

/-- The words of the table's block 7. -/
theorem block7 (i u : Fin 128) : lit0t ((896 + i.val) * 128 + u.val) = mark (Nat.ble u.val i.val) := by
  obtain ⟨h0, h1, h2⟩ := digits 7 i.val u.val i.isLt u.isLt
  have e := words7 ((896 + i.val) * 128 + u.val)
  rw [show (128 * 7 + i.val) = 896 + i.val from by omega] at h0 h1 h2
  rw [h1, h2] at e
  rw [← e]
  unfold lit0t
  rw [h0]
  rfl

/-- The words of the table's block 8. -/
theorem block8 (i u : Fin 128) : lit0t ((1024 + i.val) * 128 + u.val) = mark (Nat.blt i.val u.val) := by
  obtain ⟨h0, h1, h2⟩ := digits 8 i.val u.val i.isLt u.isLt
  have e := words8 ((1024 + i.val) * 128 + u.val)
  rw [show (128 * 8 + i.val) = 1024 + i.val from by omega] at h0 h1 h2
  rw [h1, h2] at e
  rw [← e]
  unfold lit0t
  rw [h0]
  rfl

/-- The selector table of a point is the recurrence's table. -/
theorem table (t : Fin cfg0.N) : Table (iblk m c 5 t) where
  l0 := marks m c t 0 (by decide) _ (sel 1) (pick 1) (fun i u => pick_iff 1 i.val u.val (by decide)) block0
  l1 := marks m c t 128 (by decide) _ (sel 2) (pick 2) (fun i u => pick_iff 2 i.val u.val (by decide)) block1
  l2 := marks m c t 256 (by decide) _ (sel 4) (pick 4) (fun i u => pick_iff 4 i.val u.val (by decide)) block2
  l3 := marks m c t 384 (by decide) _ (sel 8) (pick 8) (fun i u => pick_iff 8 i.val u.val (by decide)) block3
  l4 := marks m c t 512 (by decide) _ (sel 16) (pick 16) (fun i u => pick_iff 16 i.val u.val (by decide)) block4
  l5 := marks m c t 640 (by decide) _ (sel 32) (pick 32) (fun i u => pick_iff 32 i.val u.val (by decide)) block5
  l6 := marks m c t 768 (by decide) _ (sel 64) (pick 64) (fun i u => pick_iff 64 i.val u.val (by decide)) block6
  pre := marks m c t 896 (by decide) _ (fun t u => u ≤ t) (fun i u => Nat.ble u i) (fun _ _ => by simp only [Nat.ble_eq]) block7
  suf := marks m c t 1024 (by decide) _ (fun t u => t < u) (fun i u => Nat.blt i u) (fun _ _ => by simp only [Nat.blt_eq]) block8

end Cert.HgTab

end
-- ==== Proof.HgKer.lean ====
/- The recurrence kernel's output array after the run: for real operands every row is the normalised, scaled and gated closed sum. -/
module

public import proofs.«01_k».proof.Proof.HgHead
public import proofs.«01_k».proof.Proof.HgTab

@[expose] public section

set_option maxRecDepth 16384

noncomputable section

namespace Cert.HgKer

open Idealize.ShloMosaic Idealize.ShloMosaic.TcCoe Idealize.SL.Sem
open Idealize.ShloMosaic.Pipeline (Dat)
open Cert.Kernel3Ideal Cert.Kernel3Ideal.Gen
open Cert.HgMath Cert.HgWord Cert.HgPay Cert.HgHead Cert.HgTab
open scoped BigOperators

/-- A head's state rectangle. -/
abbrev R0 : Rect S4x128x128 := Rect.unit ![0, 0, 0] ![1, 128, 128] inb_S4x128x128_S1x128x128_0_0_0
/-- A head's state rectangle. -/
abbrev R1 : Rect S4x128x128 := Rect.unit ![1, 0, 0] ![1, 128, 128] inb_S4x128x128_S1x128x128_1_0_0
/-- A head's state rectangle. -/
abbrev R2 : Rect S4x128x128 := Rect.unit ![2, 0, 0] ![1, 128, 128] inb_S4x128x128_S1x128x128_2_0_0
/-- A head's state rectangle. -/
abbrev R3 : Rect S4x128x128 := Rect.unit ![3, 0, 0] ![1, 128, 128] inb_S4x128x128_S1x128x128_3_0_0

/-- A head's first channel leaves room for the head. -/
theorem room (h : Fin 4) : 128 * h.val ≤ 384 := by omega

section
variable (k f v : ℕ → Fin 512 → ℝ) (n : ℕ)

/-- The four heads' state holds the closed sums over the tokens before `n`. -/
def All (Y : S4x128x128.Idx → EReal) : Prop := ∀ (h : Fin 4) (c x : Fin 128), Y (ix3 h c x)
  = ((st (fun u => hd (128 * h.val) (room h) k u x) (fun u => hd (128 * h.val) (room h) f u x) (fun u => hd (128 * h.val) (room h) v u c) n : ℝ) : EReal)

variable {k f v n} {Y : Vec Ideal S4x128x128 .f32}

/-- Head 0 of the state. -/
theorem ld0 (hY : All k f v n Y) : State k f v 0 (by decide) n (View.ld Y R0) := fun c x => by
  refine Eq.trans (congrArg Y (ext3 ?_ ?_ ?_)) (hY 0 c x)
  · rfl
  · show 0 + 1 * c.val = c.val; omega
  · show 0 + 1 * x.val = x.val; omega

/-- Head 1 of the state. -/
theorem ld1 (hY : All k f v n Y) : State k f v 128 (by decide) n (View.ld Y R1) := fun c x => by
  refine Eq.trans (congrArg Y (ext3 ?_ ?_ ?_)) (hY 1 c x)
  · rfl
  · show 0 + 1 * c.val = c.val; omega
  · show 0 + 1 * x.val = x.val; omega

/-- Head 2 of the state. -/
theorem ld2 (hY : All k f v n Y) : State k f v 256 (by decide) n (View.ld Y R2) := fun c x => by
  refine Eq.trans (congrArg Y (ext3 ?_ ?_ ?_)) (hY 2 c x)
  · rfl
  · show 0 + 1 * c.val = c.val; omega
  · show 0 + 1 * x.val = x.val; omega

/-- Head 3 of the state. -/
theorem ld3 (hY : All k f v n Y) : State k f v 384 (by decide) n (View.ld Y R3) := fun c x => by
  refine Eq.trans (congrArg Y (ext3 ?_ ?_ ?_)) (hY 3 c x)
  · rfl
  · show 0 + 1 * c.val = c.val; omega
  · show 0 + 1 * x.val = x.val; omega

/-- Entries of one head lie outside another head's rectangle. -/
theorem off_head (a : ℕ) (h : Fin 4) (c x : Fin 128) (inb) (hne : h.val ≠ a) :
    (ix3 h c x : S4x128x128.Idx) ∉ (Rect.unit (s := S4x128x128) ![a, 0, 0] ![1, 128, 128] inb).set := by
  rw [Rect.mem_set_unit]
  intro hh
  have h0 := hh 0
  have h1 : a ≤ h.val := h0.1
  have h2 : h.val < a + 1 := h0.2
  omega

/-- A store over one head read at that head. -/
theorem hit (a : ℕ) (inb) (w : FVec Ideal S1x128x128 .f32) (L : List (View.Piece (Elt Ideal) S4x128x128 .f32)) (h : Fin 4) (c x : Fin 128) (e : h.val = a) :
    View.canon ((⟨Rect.unit (s := S4x128x128) ![a, 0, 0] ![1, 128, 128] inb, w⟩ : View.Piece (Elt Ideal) S4x128x128 .f32) :: L) (ix3 h c x) = w (ix3 0 c x) := by
  rw [show (ix3 h c x : S4x128x128.Idx) = (Rect.unit (s := S4x128x128) ![a, 0, 0] ![1, 128, 128] inb).emb (ix3 0 c x) from
    ext3 (by show h.val = a + 1 * 0; omega) (by show c.val = 0 + 1 * c.val; omega) (by show x.val = 0 + 1 * x.val; omega)]
  exact View.canon_cons_emb (Val := Elt Ideal) (e := .f32) (Rect.unit (s := S4x128x128) ![a, 0, 0] ![1, 128, 128] inb) w L (ix3 0 c x)

/-- A store over one head read at another head. -/
theorem miss (a : ℕ) (inb) (w : FVec Ideal S1x128x128 .f32) (L : List (View.Piece (Elt Ideal) S4x128x128 .f32)) (h : Fin 4) (c x : Fin 128) (hne : h.val ≠ a) :
    View.canon ((⟨Rect.unit (s := S4x128x128) ![a, 0, 0] ![1, 128, 128] inb, w⟩ : View.Piece (Elt Ideal) S4x128x128 .f32) :: L) (ix3 h c x)
      = View.canon L (ix3 h c x) :=
  View.canon_cons_of_not_mem (⟨Rect.unit (s := S4x128x128) ![a, 0, 0] ![1, 128, 128] inb, w⟩ : View.Piece (Elt Ideal) S4x128x128 .f32) L (off_head a h c x inb hne)

/-- The state as four stores, one per head. -/
theorem all_canon (a3 a2 a1 a0 : FVec Ideal S1x128x128 .f32) (rest : List (View.Piece (Elt Ideal) S4x128x128 .f32))
    (h0 : State k f v 0 (by decide) n a0) (h1 : State k f v 128 (by decide) n a1) (h2 : State k f v 256 (by decide) n a2)
    (h3 : State k f v 384 (by decide) n a3) :
    All k f v n (View.canon (⟨R3, a3⟩ :: ⟨R2, a2⟩ :: ⟨R1, a1⟩ :: ⟨R0, a0⟩ :: rest : List (View.Piece (Elt Ideal) S4x128x128 .f32))) := by
  intro h c x
  obtain ⟨h, hh⟩ := h
  interval_cases h
  · refine (miss 3 _ a3 _ _ c x (by show (0 : ℕ) ≠ 3; decide)).trans ((miss 2 _ a2 _ _ c x (by show (0 : ℕ) ≠ 2; decide)).trans
      ((miss 1 _ a1 _ _ c x (by show (0 : ℕ) ≠ 1; decide)).trans ((hit 0 _ a0 _ _ c x rfl).trans ?_)))
    exact h0 c x
  · refine (miss 3 _ a3 _ _ c x (by show (1 : ℕ) ≠ 3; decide)).trans ((miss 2 _ a2 _ _ c x (by show (1 : ℕ) ≠ 2; decide)).trans
      ((hit 1 _ a1 _ _ c x rfl).trans ?_))
    exact h1 c x
  · refine (miss 3 _ a3 _ _ c x (by show (2 : ℕ) ≠ 3; decide)).trans ((hit 2 _ a2 _ _ c x rfl).trans ?_)
    exact h2 c x
  · refine (hit 3 _ a3 _ _ c x rfl).trans ?_
    exact h3 c x

/-- The cleared state holds the sums over no token. -/
theorem all_zero : All k f v 0 (k0_pay2 (F := Ideal)) := by
  intro h c x
  pointwise [k0_pay2]
  simp [st, Ideal.ofBits_zero_f32]

end

/-- One head's output at a token before its normalisation. -/
def raw (q k f v : ℕ → Fin 512 → ℝ) (h : Fin 4) (s : ℕ) (c : Fin 128) : EReal :=
  ((out (hd (128 * h.val) (room h) q) (hd (128 * h.val) (room h) k) (hd (128 * h.val) (room h) f) (fun u => hd (128 * h.val) (room h) v u c) s : ℝ) : EReal)

/-- One head's normalised output, scaled by the gain and gated. -/
def gated (q k f v : ℕ → Fin 512 → ℝ) (n : Fin 128 → EReal) (g : EReal) (h : Fin 4) (s : ℕ) (c : Fin 128) : EReal :=
  raw q k f v h s c * Ideal.rsqrt (Ideal.div (∑ x : Fin 128, raw q k f v h s x * raw q k f v h s x) (Ideal.ofBits FTy.f32 1124073472#32) + Ideal.ofBits FTy.f32 897988541#32)
    * n c * g

variable (m : (ℓ : Loc nD τ sig) → Buf (Elt Ideal) ℓ) (c : Dev nD)
variable (q k f v : Fin 8 → ℕ → Fin 512 → ℝ)

/-- The four operands are the given reals. -/
structure Reals : Prop where
  q : ∀ (b : Fin 8) (s : Fin 4096) (j : Fin 512), (m (c, Proc.tc.devRef main_arg0) : S8x4096x512.Idx → EReal) (ix3 b s j) = ((q b s.val j : ℝ) : EReal)
  k : ∀ (b : Fin 8) (s : Fin 4096) (j : Fin 512), (m (c, Proc.tc.devRef main_arg1) : S8x4096x512.Idx → EReal) (ix3 b s j) = ((k b s.val j : ℝ) : EReal)
  f : ∀ (b : Fin 8) (s : Fin 4096) (j : Fin 512), (m (c, Proc.tc.devRef main_arg2) : S8x4096x512.Idx → EReal) (ix3 b s j) = ((f b s.val j : ℝ) : EReal)
  v : ∀ (b : Fin 8) (s : Fin 4096) (j : Fin 512), (m (c, Proc.tc.devRef main_arg3) : S8x4096x512.Idx → EReal) (ix3 b s j) = ((v b s.val j : ℝ) : EReal)

variable {m c q k f v} (R : Reals m c q k f v)
include R

/-- A point's batch entry. -/
abbrev bt (t : Fin cfg0.N) : Fin 8 := ⟨t.val / 32, by have := point_lt t; omega⟩

/-- The block of an operand at a point holds its reals. -/
theorem hold_q (t : Fin cfg0.N) : Holds (φ := .bf16) (128 * (t.val % 32)) (iblk m c 0 t) (q (bt t)) := fun u j => (q_at m c t u j).trans (R.q _ _ j)
/-- The block of an operand at a point holds its reals. -/
theorem hold_k (t : Fin cfg0.N) : Holds (φ := .bf16) (128 * (t.val % 32)) (iblk m c 1 t) (k (bt t)) := fun u j => (k_at m c t u j).trans (R.k _ _ j)
/-- The block of an operand at a point holds its reals. -/
theorem hold_f (t : Fin cfg0.N) : Holds (φ := .f32) (128 * (t.val % 32)) (iblk m c 2 t) (f (bt t)) := fun u j => (f_at m c t u j).trans (R.f _ _ j)
/-- The block of an operand at a point holds its reals. -/
theorem hold_v (t : Fin cfg0.N) : Holds (φ := .bf16) (128 * (t.val % 32)) (iblk m c 3 t) (v (bt t)) := fun u j => (v_at m c t u j).trans (R.v _ _ j)

/-- A point takes the closed sums before its chunk to those after it. -/
theorem step_all (t : Fin cfg0.N) (hb : All (k (bt t)) (f (bt t)) (v (bt t)) (128 * (t.val % 32)) (before m c t)) :
    All (k (bt t)) (f (bt t)) (v (bt t)) (128 * (t.val % 32) + 128) (outsAt0 m c t.val t.isLt).2 := by
  obtain ⟨rest, e⟩ := state m c t
  rw [e]
  unfold pieces
  have HK := hold_k R t
  have HF := hold_f R t
  have HV := hold_v R t
  have HT := table m c t
  exact all_canon _ _ _ _ rest (sh_at _ _ _ _ 0 _ _ _ HK HF HV HT (ld0 hb)) (sh_at _ _ _ _ 128 _ _ _ HK HF HV HT (ld1 hb))
    (sh_at _ _ _ _ 256 _ _ _ HK HF HV HT (ld2 hb)) (sh_at _ _ _ _ 384 _ _ _ HK HF HV HT (ld3 hb))

/-- The state before every point holds the closed sums over the tokens before its chunk. -/
theorem before_all : ∀ (n : ℕ) (hn : n < cfg0.N), All (k (bt ⟨n, hn⟩)) (f (bt ⟨n, hn⟩)) (v (bt ⟨n, hn⟩)) (128 * (n % 32)) (before m c ⟨n, hn⟩) := by
  intro n
  induction n with
  | zero =>
    intro hn
    unfold before
    rw [if_pos (by rfl)]
    exact all_zero
  | succ n ih =>
    intro hn
    unfold before
    by_cases h : (n + 1) % 32 = 0
    · rw [if_pos h, h]
      exact all_zero
    · rw [if_neg h]
      have s := step_all R ⟨n, by omega⟩ (ih (by omega))
      have e1 : bt ⟨n + 1, hn⟩ = bt ⟨n, by omega⟩ := Fin.ext (by show (n + 1) / 32 = n / 32; omega)
      have e2 : 128 * ((n + 1) % 32) = 128 * (n % 32) + 128 := by omega
      rw [e1, e2]
      exact s

/-- What a point leaves in the output block. -/
theorem point (t : Fin cfg0.N) (u : Fin 128) (j : Fin 512) :
    ((outsAt0 m c t.val t.isLt).1 : S1x128x512.Idx → EReal) (ix3 0 u j)
      = gated (q (bt t)) (k (bt t)) (f (bt t)) (v (bt t)) (fun x => (m (c, Proc.tc.devRef main_arg5) : S1x128.Idx → EReal) (ix2 0 x))
        ((m (c, Proc.tc.devRef main_arg4) : S8x4096x512.Idx → EReal) (ix3 (bt t) ⟨128 * (t.val % 32) + u.val, by omega⟩ j))
        ⟨j.val / 128, by omega⟩ (128 * (t.val % 32) + u.val) ⟨j.val % 128, by omega⟩ := by
  rw [output m c t]
  have HQ := hold_q R t
  have HK := hold_k R t
  have HF := hold_f R t
  have HV := hold_v R t
  have HT := table m c t
  have HB := before_all R t.val t.isLt
  have key : ∀ (h : Fin 4) (ho : S128x512.Slices ![0, 128 * h.val] S128x128) (Z : Vec Ideal S1x128x128 .f32)
      (hZ : State (k (bt t)) (f (bt t)) (v (bt t)) (128 * h.val) (room h) (128 * (t.val % 32)) Z) (x : Fin 128) (j : Fin 512) (hj : j.val = 128 * h.val + x.val),
      nh ![0, 128 * h.val] ho (oh ![0, 128 * h.val] ho (iblk m c 0 t) (iblk m c 1 t) (iblk m c 2 t) (iblk m c 3 t) (iblk m c 5 t) Z) (iblk m c 4 t) (iblk m c 6 t) (ix2 u x)
        = gated (q (bt t)) (k (bt t)) (f (bt t)) (v (bt t)) (fun x => (m (c, Proc.tc.devRef main_arg5) : S1x128.Idx → EReal) (ix2 0 x))
          ((m (c, Proc.tc.devRef main_arg4) : S8x4096x512.Idx → EReal) (ix3 (bt t) ⟨128 * (t.val % 32) + u.val, by omega⟩ j))
          ⟨j.val / 128, by omega⟩ (128 * (t.val % 32) + u.val) ⟨j.val % 128, by omega⟩ := by
    intro h ho Z hZ x j hj
    have eo := oh_at (128 * (t.val % 32)) (q (bt t)) (k (bt t)) (f (bt t)) (v (bt t)) (128 * h.val) (room h) ho HQ HK HF HV HT hZ u
    rw [show (⟨j.val / 128, by omega⟩ : Fin 4) = h from Fin.ext (by show j.val / 128 = h.val; omega),
      show (⟨j.val % 128, by omega⟩ : Fin 128) = x from Fin.ext (by show j.val % 128 = x.val; omega)]
    refine (nh_at (128 * h.val) (room h) ho _ _ _ u x).trans ?_
    simp only [eo]
    unfold gated raw
    refine congrArg₂ (· * ·) (congrArg (_ * ·) (gain_at m c t x)) ((g_at m c t u _).trans ?_)
    exact congrArg (m (c, Proc.tc.devRef main_arg4)) (ext3 rfl rfl hj.symm)
  have k0 := fun x j hj => key 0 slices_S128x512_o0_0_S128x128 _ (ld0 HB) x j hj
  have k1 := fun x j hj => key 1 slices_S128x512_o0_128_S128x128 _ (ld1 HB) x j hj
  have k2 := fun x j hj => key 2 slices_S128x512_o0_256_S128x128 _ (ld2 HB) x j hj
  have k3 := fun x j hj => key 3 slices_S128x512_o0_384_S128x128 _ (ld3 HB) x j hj
  unfold outB
  change ∀ x j hj, nh ![0, 0] slices_S128x512_o0_0_S128x128 (oh ![0, 0] slices_S128x512_o0_0_S128x128 _ _ _ _ _ (View.ld (before m c t) R0)) _ _ (ix2 u x) = _ at k0
  change ∀ x j hj, nh ![0, 128] slices_S128x512_o0_128_S128x128 (oh ![0, 128] slices_S128x512_o0_128_S128x128 _ _ _ _ _ (View.ld (before m c t) R1)) _ _ (ix2 u x) = _ at k1
  change ∀ x j hj, nh ![0, 256] slices_S128x512_o0_256_S128x128 (oh ![0, 256] slices_S128x512_o0_256_S128x128 _ _ _ _ _ (View.ld (before m c t) R2)) _ _ (ix2 u x) = _ at k2
  change ∀ x j hj, nh ![0, 384] slices_S128x512_o0_384_S128x128 (oh ![0, 384] slices_S128x512_o0_384_S128x128 _ _ _ _ _ (View.ld (before m c t) R3)) _ _ (ix2 u x) = _ at k3
  generalize nh ![0, 0] slices_S128x512_o0_0_S128x128 (oh ![0, 0] slices_S128x512_o0_0_S128x128 (iblk m c 0 t) (iblk m c 1 t) (iblk m c 2 t) (iblk m c 3 t) (iblk m c 5 t) (View.ld (before m c t) R0)) (iblk m c 4 t) (iblk m c 6 t) = N0 at k0 ⊢
  generalize nh ![0, 128] slices_S128x512_o0_128_S128x128 (oh ![0, 128] slices_S128x512_o0_128_S128x128 (iblk m c 0 t) (iblk m c 1 t) (iblk m c 2 t) (iblk m c 3 t) (iblk m c 5 t) (View.ld (before m c t) R1)) (iblk m c 4 t) (iblk m c 6 t) = N1 at k1 ⊢
  generalize nh ![0, 256] slices_S128x512_o0_256_S128x128 (oh ![0, 256] slices_S128x512_o0_256_S128x128 (iblk m c 0 t) (iblk m c 1 t) (iblk m c 2 t) (iblk m c 3 t) (iblk m c 5 t) (View.ld (before m c t) R2)) (iblk m c 4 t) (iblk m c 6 t) = N2 at k2 ⊢
  generalize nh ![0, 384] slices_S128x512_o0_384_S128x128 (oh ![0, 384] slices_S128x512_o0_384_S128x128 (iblk m c 0 t) (iblk m c 1 t) (iblk m c 2 t) (iblk m c 3 t) (iblk m c 5 t) (View.ld (before m c t) R3)) (iblk m c 4 t) (iblk m c 6 t) = N3 at k3 ⊢
  pointwise []
  split
  · exact k0 _ j (by show j.val = 128 * 0 + j.val; omega)
  · split
    · exact k1 _ j (by show j.val = 128 * 1 + (j.val - 128); omega)
    · split
      · exact k2 _ j (by show j.val = 128 * 2 + (j.val - 128 - 128); omega)
      · exact k3 _ j (by show j.val = 128 * 3 + (j.val - 128 - 128 - 128); omega)

variable (m c q k f v)
omit R

/-- The output array. -/
def G : FVec Ideal S8x4096x512 .bf16 := fun i =>
  gated (q (i 0)) (k (i 0)) (f (i 0)) (v (i 0)) (fun x => (m (c, Proc.tc.devRef main_arg5) : S1x128.Idx → EReal) (ix2 0 x))
    ((m (c, Proc.tc.devRef main_arg4) : S8x4096x512.Idx → EReal) i)
    ⟨(i 2).val / 128, by have : (i 2).val < 512 := (i 2).isLt; omega⟩ (i 1).val ⟨(i 2).val % 128, Nat.mod_lt _ (by decide)⟩

variable {m c q k f v}

/-- The output array after the run. -/
theorem final (R : Reals m c q k f v) : (dats m 0 c).arrAt 7 (cfgs 0).N = G m c q k f v := by
  refine (dats m 0 c).arrAt_eq_of_covers 7 _ (by decide +kernel) fun t _ y => ?_
  blk_simp
  rw [after0_7]
  idx_vars y
  rw [show y0 = 0 from Subsingleton.elim _ _]
  refine (point R t y1 y2).trans (congrArg (G m c q k f v) (ext3 ?_ ?_ ?_) : G m c q k f v (ix3 (bt t) ⟨128 * (t.val % 32) + y1.val, by omega⟩ y2) = _)
  all_goals (blk_simp [idx t]; try simp only []; try omega)

end Cert.HgKer

end
-- ==== Proof.HgRef.lean ====
/- The recurrence's reference read at a token, a head and a channel: for real operands the normalised, scaled and gated closed sum. -/
module

public import proofs.«01_k».proof.Proof.HgKer
public import proofs.«01_k».proof.Proof.Gen.Reference3Ideal.Read

@[expose] public section

set_option maxRecDepth 16384

noncomputable section

namespace Cert.HgRef

open Idealize.ShloMosaic Idealize.ShloMosaic.TcCoe Idealize.SL.Sem
open Idealize.ShloMosaic.WordCmp
open Cert.Reference3Ideal Cert.Reference3Ideal.Gen Cert.Reference3Ideal.Read
open Cert.HgMath Cert.HgPay Cert.HgHead Cert.HgKer
open Cert.HgTab (ext2 ext3 bool_bit bit_real)
open scoped BigOperators

/-- Two indices of a four-axis shape with the same coordinates are equal. -/
theorem ext4 {n0 n1 n2 n3 : ℕ} {x y : (⟨4, ![n0, n1, n2, n3]⟩ : Shape).Idx} (h0 : (x 0).val = (y 0).val) (h1 : (x 1).val = (y 1).val)
    (h2 : (x 2).val = (y 2).val) (h3 : (x 3).val = (y 3).val) : x = y :=
  funext fun a => match a with | ⟨0, _⟩ => Fin.ext h0 | ⟨1, _⟩ => Fin.ext h1 | ⟨2, _⟩ => Fin.ext h2 | ⟨3, _⟩ => Fin.ext h3

/-- Two indices of a five-axis shape with the same coordinates are equal. -/
theorem ext5 {n0 n1 n2 n3 n4 : ℕ} {x y : (⟨5, ![n0, n1, n2, n3, n4]⟩ : Shape).Idx} (h0 : (x 0).val = (y 0).val) (h1 : (x 1).val = (y 1).val)
    (h2 : (x 2).val = (y 2).val) (h3 : (x 3).val = (y 3).val) (h4 : (x 4).val = (y 4).val) : x = y :=
  funext fun a => match a with | ⟨0, _⟩ => Fin.ext h0 | ⟨1, _⟩ => Fin.ext h1 | ⟨2, _⟩ => Fin.ext h2 | ⟨3, _⟩ => Fin.ext h3 | ⟨4, _⟩ => Fin.ext h4

/-- A sum over all tokens of the terms up to one of them. -/
theorem upto (g : ℕ → ℝ) (t : Fin 4096) : (∑ u : Fin 4096, if u.val ≤ t.val then g u.val else 0) = ∑ u ∈ Finset.range (t.val + 1), g u := by
  rw [Fin.sum_univ_eq_sum_range (fun u => if u ≤ t.val then g u else 0) 4096, ← Finset.sum_filter]
  refine Finset.sum_congr (Finset.ext fun u => ?_) fun _ _ => rfl
  have := t.isLt
  simp only [Finset.mem_filter, Finset.mem_range]
  omega

/-- The channel of a head's channel. -/
abbrev ch (h : Fin 4) (x : Fin 128) : Fin 512 := ⟨128 * h.val + x.val, by omega⟩

/-- The head layout's index is the flat one's. -/
theorem flat (b : Fin 8) (s : Fin 4096) (h : Fin 4) (x : Fin 128) : idx_main_v1 (ix4 b s h x) = ix3 b s (ch h x) := by
  refine ext3 ?_ ?_ ?_
  · show (((b.val * 4096 + s.val) * 4 + h.val) * 128 + x.val) / 2097152 = b.val
    omega
  · show (((b.val * 4096 + s.val) * 4 + h.val) * 128 + x.val) / 512 % 4096 = s.val
    omega
  · show (((b.val * 4096 + s.val) * 4 + h.val) * 128 + x.val) % 512 = 128 * h.val + x.val
    omega

/-- The causal mask. -/
theorem v14_apply (t u : Fin 4096) : val_main_v14 (F := Ideal) (ix2 t u) = if u.val ≤ t.val then 1#1 else 0#1 := by
  rw [val_main_v14_apply, val_main_v12_apply, val_main_v10_apply, val_main_v13_apply, val_main_v11_apply, val_main_v9_apply, val_main_v9_apply]
  refine Eq.trans (b := IntOp.cmpi .sle (BitVec.ofNat 32 u.val) (BitVec.ofNat 32 t.val)) rfl ?_
  rw [cmpi_sle_ofNat (by omega) (by omega)]
  exact bool_bit _ _ decide_eq_true_iff

variable {x0 x1 x3 : (⟨S8x4096x512, .bf16⟩ : BufTy).Contents (Elt Ideal)} {x2 : (⟨S8x4096x512, .f32⟩ : BufTy).Contents (Elt Ideal)}
  (x4 : (⟨S8x4096x512, .bf16⟩ : BufTy).Contents (Elt Ideal)) (x5 : (⟨S1x128, .f32⟩ : BufTy).Contents (Elt Ideal))
variable {q k f v : Fin 8 → ℕ → Fin 512 → ℝ}
  (hq : ∀ (b : Fin 8) (s : Fin 4096) (j : Fin 512), (x0 : S8x4096x512.Idx → EReal) (ix3 b s j) = ((q b s.val j : ℝ) : EReal))
  (hk : ∀ (b : Fin 8) (s : Fin 4096) (j : Fin 512), (x1 : S8x4096x512.Idx → EReal) (ix3 b s j) = ((k b s.val j : ℝ) : EReal))
  (hf : ∀ (b : Fin 8) (s : Fin 4096) (j : Fin 512), (x2 : S8x4096x512.Idx → EReal) (ix3 b s j) = ((f b s.val j : ℝ) : EReal))
  (hv : ∀ (b : Fin 8) (s : Fin 4096) (j : Fin 512), (x3 : S8x4096x512.Idx → EReal) (ix3 b s j) = ((v b s.val j : ℝ) : EReal))
variable (b : Fin 8) (t s : Fin 4096) (h : Fin 4) (c : Fin 128)

include hq in
/-- The query of a head. -/
theorem v1_apply : (val_main_v1 (F := Ideal) x0 (ix4 b t h c) : EReal) = ((hd (128 * h.val) (room h) (q b) t.val c : ℝ) : EReal) := by
  rw [val_main_v1_apply, flat]
  exact hq b t (ch h c)

include hk in
/-- The key of a head. -/
theorem v3_apply : (val_main_v3 (F := Ideal) x1 (ix4 b t h c) : EReal) = ((hd (128 * h.val) (room h) (k b) t.val c : ℝ) : EReal) := by
  rw [val_main_v3_apply, show idx_main_v3 (ix4 b t h c) = ix3 b t (ch h c) from flat b t h c]
  exact hk b t (ch h c)

include hf in
/-- The log decay of a head. -/
theorem v4_apply : (val_main_v4 (F := Ideal) x2 (ix4 b t h c) : EReal) = ((hd (128 * h.val) (room h) (f b) t.val c : ℝ) : EReal) := by
  rw [val_main_v4_apply, show idx_main_v4 (ix4 b t h c) = ix3 b t (ch h c) from flat b t h c]
  exact hf b t (ch h c)

include hv in
/-- The value of a head. -/
theorem v6_apply : (val_main_v6 (F := Ideal) x3 (ix4 b t h c) : EReal) = ((hd (128 * h.val) (room h) (v b) t.val c : ℝ) : EReal) := by
  rw [val_main_v6_apply, show idx_main_v6 (ix4 b t h c) = ix3 b t (ch h c) from flat b t h c]
  exact hv b t (ch h c)

include hf in
/-- The log decays summed up to and with a token. -/
theorem v17_apply : (val_main_v17 (F := Ideal) x2 (ix4 b t h c) : EReal) = ((A (fun u => hd (128 * h.val) (room h) (f b) u c) (t.val + 1) : ℝ) : EReal) := by
  rw [val_main_v17_apply, val_main_v16_apply]
  refine (Finset.sum_congr rfl fun u _ => ?_ : _ = ∑ u : Fin 4096, (((if u.val ≤ t.val then hd (128 * h.val) (room h) (f b) u.val c else 0 : ℝ)) : EReal)).trans ?_
  · rw [show lidx_main_v16 (idx_main_v17 (ix4 b t h c)) u = ix4 b u h c from ext4 rfl rfl rfl rfl, v4_apply hf b u h c,
      show ridx_main_v16 (idx_main_v17 (ix4 b t h c)) u = ix2 t u from ext2 rfl rfl, val_main_v15_apply, v14_apply, bit_real, ← EReal.coe_mul]
    refine congrArg _ ?_
    split <;> simp
  · rw [coe_sum]
    exact congrArg _ (upto (fun u => hd (128 * h.val) (room h) (f b) u c) t)

include hf in
/-- The decay from one token to another; nothing to an earlier one. -/
theorem v25_apply : (val_main_v25 (F := Ideal) x2 (ix5 b t s h c) : EReal)
    = (((if s.val ≤ t.val then Real.exp (A (fun u => hd (128 * h.val) (room h) (f b) u c) (t.val + 1) - A (fun u => hd (128 * h.val) (room h) (f b) u c) (s.val + 1)) else 0 : ℝ)) : EReal) := by
  rw [val_main_v25_apply, val_main_call0_v1_apply, val_main_v23_apply,
    show idx_main_v23 (idx_main_call0_v1 (ix5 b t s h c)) = ix2 t s from ext2 rfl rfl, v14_apply]
  split
  · refine (show Scalar.select 1#1 _ _ = _ from rfl).trans ?_
    rw [val_main_v24_apply, val_main_v22_apply, val_main_v20_apply, val_main_v18_apply, val_main_v21_apply, val_main_v19_apply,
      show idx_main_v18 (idx_main_v20 (ix5 b t s h c)) = ix4 b t h c from ext4 rfl rfl rfl rfl,
      show idx_main_v19 (idx_main_v21 (ix5 b t s h c)) = ix4 b s h c from ext4 rfl rfl rfl rfl, v17_apply hf, v17_apply hf]
    refine (congrArg Ideal.exp (EReal.coe_sub _ _).symm).trans ?_
    exact Ideal.exp_coe _
  · refine (show Scalar.select 0#1 _ _ = _ from rfl).trans ?_
    rw [val_main_call0_v2_apply, val_main_call0_v0_apply, val_main_cst_apply]
    exact Ideal.ofBits_zero_f32

include hq hk hf in
/-- The score of a token against a token up to it; nothing against a later one. -/
theorem v32_apply : (val_main_v32 (F := Ideal) x0 x1 x2 (ix4 b t s h) : EReal)
    = (((if s.val ≤ t.val then score (hd (128 * h.val) (room h) (q b)) (hd (128 * h.val) (room h) (k b)) (hd (128 * h.val) (room h) (f b)) t.val s.val else 0 : ℝ)) : EReal) := by
  rw [val_main_v32_apply]
  refine (congrArg₂ (· + ·) (Ideal.ofBits_zero_f32 : _ = (0 : EReal)) (Finset.sum_congr rfl fun c _ => ?_ : _ = ∑ c : Fin 128,
    ((hd (128 * h.val) (room h) (q b) t.val c * hd (128 * h.val) (room h) (k b) s.val c * (if s.val ≤ t.val then
      Real.exp (A (fun u => hd (128 * h.val) (room h) (f b) u c) (t.val + 1) - A (fun u => hd (128 * h.val) (room h) (f b) u c) (s.val + 1)) else 0) : ℝ) : EReal))).trans ?_
  · rw [show idx_main_v32 (ix4 b t s h) c = ix5 b t s h c from ext5 rfl rfl rfl rfl rfl, val_main_v31_apply, val_main_v30_apply,
      val_main_v28_apply, val_main_v26_apply, val_main_v29_apply, val_main_v27_apply, v25_apply hf,
      show idx_main_v26 (idx_main_v28 (ix5 b t s h c)) = ix4 b t h c from ext4 rfl rfl rfl rfl,
      show idx_main_v27 (idx_main_v29 (ix5 b t s h c)) = ix4 b s h c from ext4 rfl rfl rfl rfl, v1_apply hq, v3_apply hk, EReal.coe_mul, EReal.coe_mul]
    rfl
  · rw [zero_add, coe_sum]
    refine congrArg _ ?_
    split
    · rfl
    · simp

include hq hk hf hv in
/-- A head's output before its normalisation. -/
theorem v34_apply : (val_main_v34 (F := Ideal) x0 x1 x2 x3 (ix4 b t h c) : EReal) = raw (q b) (k b) (f b) (v b) h t.val c := by
  rw [val_main_v34_apply, val_main_v33_apply]
  refine (Finset.sum_congr rfl fun s _ => ?_ : _ = ∑ s : Fin 4096, (((if s.val ≤ t.val then
    score (hd (128 * h.val) (room h) (q b)) (hd (128 * h.val) (room h) (k b)) (hd (128 * h.val) (room h) (f b)) t.val s.val
      * hd (128 * h.val) (room h) (v b) s.val c else 0 : ℝ)) : EReal)).trans ?_
  · rw [show lidx_main_v33 (idx_main_v34 (ix4 b t h c)) s = ix4 b s h c from ext4 rfl rfl rfl rfl, v6_apply hv,
      show ridx_main_v33 (idx_main_v34 (ix4 b t h c)) s = ix4 b t s h from ext4 rfl rfl rfl rfl, v32_apply hq hk hf, ← EReal.coe_mul]
    refine congrArg _ ?_
    split
    · ring
    · simp
  · rw [coe_sum, upto (fun s => score (hd (128 * h.val) (room h) (q b)) (hd (128 * h.val) (room h) (k b)) (hd (128 * h.val) (room h) (f b)) t.val s
      * hd (128 * h.val) (room h) (v b) s c)]
    rfl

include hq hk hf hv in
/-- A head's normalised, scaled and gated output. -/
theorem v49_apply : (val_main_v49 (F := Ideal) x0 x1 x2 x3 x4 x5 (ix4 b t h c) : EReal)
    = gated (q b) (k b) (f b) (v b) (fun x => x5 (ix2 0 x)) (x4 (ix3 b t (ch h c))) h t.val c := by
  rw [val_main_v49_apply, val_main_v48_apply, val_main_v44_apply, val_main_v43_apply, val_main_v42_apply, val_main_v41_apply, val_main_v39_apply,
    val_main_v37_apply, val_main_v36_apply, val_main_v38_apply, val_main_v40_apply, val_main_cst_2_apply, val_main_cst_3_apply, val_main_v47_apply, val_main_v46_apply,
    val_main_v45_apply, val_main_v8_apply, show idx_main_v8 (ix4 b t h c) = ix3 b t (ch h c) from flat b t h c, v34_apply hq hk hf hv]
  have e : ∀ x : Fin 128, (val_main_v35 (F := Ideal) x0 x1 x2 x3 (idx_main_v36 (idx_main_v37 (idx_main_v43 (ix4 b t h c))) x) : EReal)
      = raw (q b) (k b) (f b) (v b) h t.val x * raw (q b) (k b) (f b) (v b) h t.val x := fun x => by
    rw [val_main_v35_apply, show idx_main_v36 (idx_main_v37 (idx_main_v43 (ix4 b t h c))) x = ix4 b t h x from ext4 rfl rfl rfl rfl, v34_apply hq hk hf hv]
    rfl
  rw [Finset.sum_congr rfl fun x _ => e x, show (val_main_cst_1 (F := Ideal) (Shape.Idx.first h_S_) : EReal) = 0 from Ideal.ofBits_zero_f32, zero_add,
    show idx_main_v45 (idx_main_v46 (idx_main_v47 (ix4 b t h c))) = ix2 0 c from ext2 rfl (by show c.val % 128 = c.val; omega)]
  rfl

include hq hk hf hv in
/-- The reference's result. -/
theorem v51_apply (j : Fin 512) : (val_main_v51 (F := Ideal) x0 x1 x2 x3 x4 x5 (ix3 b t j) : EReal)
    = gated (q b) (k b) (f b) (v b) (fun x => x5 (ix2 0 x)) (x4 (ix3 b t j)) ⟨j.val / 128, by omega⟩ t.val ⟨j.val % 128, by omega⟩ := by
  show (val_main_v50 (F := Ideal) x0 x1 x2 x3 x4 x5 (ix3 b t j) : EReal) = _
  rw [val_main_v50_apply, show idx_main_v50 (ix3 b t j) = ix4 b t (⟨j.val / 128, by omega⟩ : Fin 4) (⟨j.val % 128, by omega⟩ : Fin 128) from by
    refine ext4 ?_ ?_ ?_ ?_
    · show ((b.val * 4096 + t.val) * 512 + j.val) / 2097152 = b.val
      omega
    · show ((b.val * 4096 + t.val) * 512 + j.val) / 512 % 4096 = t.val
      omega
    · show ((b.val * 4096 + t.val) * 512 + j.val) / 128 % 4 = j.val / 128
      omega
    · show ((b.val * 4096 + t.val) * 512 + j.val) % 128 = j.val % 128
      omega]
  rw [v49_apply x4 x5 hq hk hf hv, show ch (⟨j.val / 128, by omega⟩ : Fin 4) (⟨j.val % 128, by omega⟩ : Fin 128) = j from Fin.ext (by show 128 * (j.val / 128) + j.val % 128 = j.val; omega)]

end Cert.HgRef

end
-- ==== Proof.HgPre.lean ====
/- The condition on the recurrence's operands gives real numbers. -/
module

public import proofs.«01_k».proof.Defs
public import proofs.«01_k».proof.Proof.HgKer

@[expose] public section

set_option maxRecDepth 16384

noncomputable section

namespace Cert.HgPre

open Idealize.ShloMosaic Idealize.ShloMosaic.TcCoe Idealize.SL.Sem

/-- The shape relation the condition takes. -/
instance facts : Cert.Pre_finite_tokens.Facts := ⟨by decide⟩

/-- Both of two bits are set where their conjunction is. -/
theorem both : ∀ a b : BitVec 1, IntOp.andi a b = 1#1 → a = 1#1 ∧ b = 1#1 := by decide

variable (m : (ℓ : Loc Cert.Kernel3Ideal.nD Cert.Kernel3Ideal.τ Cert.Kernel3Ideal.sig) → Buf (Elt Ideal) ℓ) (c : Dev Cert.Kernel3Ideal.nD)

/-- The query array. -/
abbrev a0 : Cert.Kernel3Ideal.S8x4096x512.Idx → EReal := m (c, Proc.tc.devRef Cert.Kernel3Ideal.main_arg0)
/-- The key array. -/
abbrev a1 : Cert.Kernel3Ideal.S8x4096x512.Idx → EReal := m (c, Proc.tc.devRef Cert.Kernel3Ideal.main_arg1)
/-- The log decay array. -/
abbrev a2 : Cert.Kernel3Ideal.S8x4096x512.Idx → EReal := m (c, Proc.tc.devRef Cert.Kernel3Ideal.main_arg2)
/-- The value array. -/
abbrev a3 : Cert.Kernel3Ideal.S8x4096x512.Idx → EReal := m (c, Proc.tc.devRef Cert.Kernel3Ideal.main_arg3)

/-- Where the condition holds the four operands are real. -/
theorem reals (h : Cert.Pre_Kernel3Ideal_finite_tokens m) (i : Cert.Kernel3Ideal.S8x4096x512.Idx) :
    (∃ r : ℝ, a0 m c i = (r : EReal)) ∧ (∃ r : ℝ, a1 m c i = (r : EReal)) ∧ (∃ r : ℝ, a2 m c i = (r : EReal)) ∧ (∃ r : ℝ, a3 m c i = (r : EReal)) := by
  have e := congrFun (h c) i
  change Cert.Pre_finite_tokens.fn (F := Ideal) (a0 m c) (a1 m c) (a2 m c) (a3 m c) _ _ i = _ at e
  generalize a0 m c = x0 at e ⊢
  generalize a1 m c = x1 at e ⊢
  generalize a2 m c = x2 at e ⊢
  generalize a3 m c = x3 at e ⊢
  unfold Cert.Pre_finite_tokens.fn at e
  obtain ⟨e, e3⟩ := both _ _ e
  obtain ⟨e, e2⟩ := both _ _ e
  obtain ⟨e0, e1⟩ := both _ _ e
  have fin : ∀ x : EReal, FloatOps.cmpf (F := Ideal) (φ := .f32) .olt (FloatOps.absf x) (Ideal.ofBits FTy.f32 0x7F800000#32) = 1#1 → ∃ r : ℝ, x = (r : EReal) := by
    intro x hx
    induction x using EReal.rec with
    | coe r => exact ⟨r, rfl⟩
    | bot =>
      rw [Ideal.cmpf_def] at hx
      exact absurd hx (by simp [Ideal.ofBits, Ideal.ieee, FloatOps.absf, Ideal.cmp])
    | top =>
      rw [Ideal.cmpf_def] at hx
      exact absurd hx (by simp [Ideal.ofBits, Ideal.ieee, FloatOps.absf, Ideal.cmp])
  have fin' : ∀ x : EReal, FloatOps.cmpf (F := Ideal) (φ := .bf16) .olt (FloatOps.absf x) (Ideal.ofBits FTy.bf16 0x7F80#16) = 1#1 → ∃ r : ℝ, x = (r : EReal) := by
    intro x hx
    induction x using EReal.rec with
    | coe r => exact ⟨r, rfl⟩
    | bot =>
      rw [Ideal.cmpf_def] at hx
      exact absurd hx (by simp [Ideal.ofBits, Ideal.ieee, FloatOps.absf, Ideal.cmp])
    | top =>
      rw [Ideal.cmpf_def] at hx
      exact absurd hx (by simp [Ideal.ofBits, Ideal.ieee, FloatOps.absf, Ideal.cmp])
  exact ⟨fin' _ e0, fin' _ e1, fin _ e2, fin' _ e3⟩

/-- An array's real numbers by batch entry, token and channel. -/
def real (x : Cert.Kernel3Ideal.S8x4096x512.Idx → EReal) (b : Fin 8) (s : ℕ) (j : Fin 512) : ℝ :=
  if h : s < 4096 then (x (ValueIdx.ix3 b ⟨s, h⟩ j)).toReal else 0

/-- An array of reals holds its real numbers. -/
theorem real_at (x : Cert.Kernel3Ideal.S8x4096x512.Idx → EReal) (hx : ∀ i, ∃ r : ℝ, x i = (r : EReal)) (b : Fin 8) (s : Fin 4096) (j : Fin 512) :
    x (ValueIdx.ix3 b s j) = ((real x b s.val j : ℝ) : EReal) := by
  unfold real
  rw [dif_pos s.isLt]
  obtain ⟨r, hr⟩ := hx (ValueIdx.ix3 b s j)
  rw [show (⟨s.val, s.isLt⟩ : Fin 4096) = s from rfl, hr, EReal.toReal_coe]

/-- The query, key, log decay and value as reals. -/
theorem holds (h : Cert.Pre_Kernel3Ideal_finite_tokens m) : Cert.HgKer.Reals m c (real (a0 m c)) (real (a1 m c)) (real (a2 m c)) (real (a3 m c)) where
  q := real_at _ fun i => (reals m c h i).1
  k := real_at _ fun i => (reals m c h i).2.1
  f := real_at _ fun i => (reals m c h i).2.2.1
  v := real_at _ fun i => (reals m c h i).2.2.2

end Cert.HgPre

end
-- ==== Proof.ModFinal.lean ====
/- The conditioning call: the kernel's array after the run and the reference's array are one affine map of the activated condition. -/
module

public import proofs.«01_k».proof.Proof.InPay
public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

namespace Cert.ModFinal

open Idealize.ShloMosaic Idealize.ShloMosaic.TcCoe Idealize.SL.Sem
open Idealize.ShloMosaic.Pipeline (Dat)
open Cert.Kernel4Ideal Cert.Kernel4Ideal.Gen
open Cert.InPay (ext2 ext3)
open Cert.InRow (silu)
open scoped BigOperators

/-- One modulation entry: the activated condition row against the weights' column, plus the bias. -/
def entry (x : FVec Ideal S8x1024 .f32) (w : FVec Ideal S1x1024x6144 .f32) (b : FVec Ideal S1x6144 .f32) (r : Fin 8) (j : Fin 6144) : EReal :=
  (∑ k : Fin 1024, silu (x (ix2 r k)) * w (ix3 (0 : Fin 1) k j)) + b (ix2 (0 : Fin 1) j)

/-- The body's payload at an entry. -/
theorem pay (x : Vec Ideal S8x1024 .f32) (w : Vec Ideal S1024x1024 .f32) (b : Vec Ideal S1x1024 .f32) (r : Fin 8) (j : Fin 1024) :
    k0_pay1 (F := Ideal) x w b (ix2 r j) = (∑ k : Fin 1024, silu (x (ix2 r k)) * w (ix2 k j)) + b (ix2 (0 : Fin 1) j) := by
  pointwise [k0_pay1]
  rfl

variable (m : (ℓ : Loc nD τ sig) → Buf (Elt Ideal) ℓ) (c : Dev nD)

/-- The condition. -/
abbrev a0 : FVec Ideal S8x1024 .f32 := m ((c : Thread nD τ).loc main_arg0)
/-- The weights. -/
abbrev a1 : FVec Ideal S1x1024x6144 .f32 := m ((c : Thread nD τ).loc main_arg1)
/-- The bias. -/
abbrev a2 : FVec Ideal S1x6144 .f32 := m ((c : Thread nD τ).loc main_arg2)

/-- The block index of every window at every grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The array column that column `j` of point `t`'s block is. -/
abbrev col (t : Fin cfg0.N) (j : Fin 1024) : Fin 6144 := ⟨1024 * t.val + j.val, by have : t.val < 6 := t.isLt; omega⟩

/-- Window 0 is the condition. -/
theorem e0 (t : Fin cfg0.N) (r : Fin 8) (k : Fin 1024) : (iblk m c 0 t : S8x1024.Idx → EReal) (ix2 r k) = a0 m c (ix2 r k) := by
  blk_simp [iblk]
  entry_read
  pointwise []
  refine congrArg (m (c, Proc.tc.devRef main_arg0)) (ext2 ?_ ?_)
  all_goals (blk_simp [idx t]; try omega)

/-- Window 1 is a block of the weights' columns. -/
theorem e1 (t : Fin cfg0.N) (k j : Fin 1024) : (iblk m c 1 t : S1024x1024.Idx → EReal) (ix2 k j) = a1 m c (ix3 (0 : Fin 1) k (col t j)) := by
  blk_simp [iblk]
  entry_read
  pointwise []
  have ht : t.val < 6 := t.isLt
  refine congrArg (m (c, Proc.tc.devRef main_arg1)) (ext3 ?_ ?_ ?_)
  · try rfl
  · show _ = k.val
    blk_simp [idx t]
    try omega
  · show _ = 1024 * t.val + j.val
    blk_simp [idx t]
    try omega

/-- Window 2 is a block of the bias. -/
theorem e2 (t : Fin cfg0.N) (j : Fin 1024) : (iblk m c 2 t : S1x1024.Idx → EReal) (ix2 0 j) = a2 m c (ix2 (0 : Fin 1) (col t j)) := by
  blk_simp [iblk]
  entry_read
  pointwise []
  have ht : t.val < 6 := t.isLt
  refine congrArg (m (c, Proc.tc.devRef main_arg2)) (ext2 ?_ ?_)
  · try rfl
  · show _ = 1024 * t.val + j.val
    blk_simp [idx t]
    try omega

/-- The output array. -/
def G : FVec Ideal S8x6144 .f32 := fun i => entry (a0 m c) (a1 m c) (a2 m c) (i 0) (i 1)

/-- What the body leaves in the output block. -/
theorem point (t : Fin cfg0.N) (r : Fin 8) (j : Fin 1024) :
    ((dats m 0 c).after 3 t : S8x1024.Idx → EReal) (ix2 r j) = G m c (ix2 r (col t j)) := by
  rw [after0_3]
  unfold out0_3
  rw [View.canon_unit_zero (S := S8x1024) (by decide)]
  rw [View.ld_unit_zero (S := S8x1024) (by decide), View.ld_unit_zero (S := S1024x1024) (by decide), View.ld_unit_zero (S := S1x1024) (by decide)]
  refine (pay _ _ _ r j).trans ?_
  refine Eq.trans ?_ (rfl : entry (a0 m c) (a1 m c) (a2 m c) r (col t j) = _)
  unfold entry
  refine congrArg₂ (· + ·) (Finset.sum_congr rfl fun k _ => congrArg₂ (fun a b => silu a * b) ?_ ?_) ?_
  · exact e0 m c t r k
  · exact e1 m c t k j
  · exact e2 m c t j

/-- The output array after the run. -/
theorem final : (dats m 0 c).arrAt 3 (cfgs 0).N = G m c := by
  refine (dats m 0 c).arrAt_eq_of_covers 3 _ (by decide +kernel) fun t _ y => ?_
  blk_simp
  idx_vars y
  refine (point m c t _ _).trans (congrArg (G m c) (ext2 ?_ ?_))
  · blk_simp [idx t]
  · blk_simp [idx t]
    show 1024 * t.val + y1.val = _
    omega

section
open Cert.Reference4Ideal.Read

/-- The reference's entry. -/
theorem ref_apply (x : FVec Ideal S8x1024 .f32) (w : FVec Ideal S1x1024x6144 .f32) (b : FVec Ideal S1x6144 .f32) (r : Fin 8) (j : Fin 6144) :
    val_main_v6 (F := Ideal) x w b (ix2 r j) = entry x w b r j := by
  rw [val_main_v6_apply, val_main_v2_apply, val_main_v5_apply, val_main_v4_apply, val_main_v3_apply]
  unfold entry
  refine congrArg₂ (· + ·) (Finset.sum_congr rfl fun k _ => congrArg₂ (· * ·) ?_ ?_) (congrArg b (ext2 rfl ?_))
  · rw [show lidx_main_v2 (ix2 r j) k = ix2 r k from ext2 rfl rfl, val_main_v0_apply, val_main_call0_v5_apply, val_main_call0_v3_apply,
      val_main_call0_v1_apply, val_main_call0_v0_apply]
    unfold silu Ideal.logistic
    simp only [val_main_call0_v2_apply, val_main_call0_v4_apply, val_main_call0_cst_apply, val_main_call0_cst_0_apply,
      Ideal.ofBits_def, Ideal.ofBits_one_f32, Ideal.hostDivf_def]
    rfl
  · rw [val_main_v1_apply]
    refine congrArg w (ext3 rfl ?_ ?_)
    · show (k.val * 6144 + j.val) / 6144 % 1024 = k.val
      omega
    · show (k.val * 6144 + j.val) % 6144 = j.val
      omega
  · show j.val % 6144 = j.val
    omega

end

end Cert.ModFinal

end
-- ==== Proof.lean ====
/- The claims. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.TailRef
public import proofs.«01_k».proof.Proof.TailFinal
public import proofs.«01_k».proof.Proof.InRef
public import proofs.«01_k».proof.Proof.InFinal
public import proofs.«01_k».proof.Proof.HgRef
public import proofs.«01_k».proof.Proof.HgPre
public import proofs.«01_k».proof.Proof.ModFinal
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- Over the reals the kernel's array and the reference's array are one array. -/
theorem algebraic_tail : Cert.algebraic_KernelIdeal_ReferenceIdeal (hKernelIdeal := Cert.KernelIdeal.Gen.facts) (hReferenceIdeal := Cert.ReferenceIdeal.Gen.facts) := by
  intro m g m' g' _ h
  refine ⟨fun c => Cert.TailFinal.G m c, ?_, ?_⟩
  · run_from Cert.KernelIdeal.Gen.run_main (F := Ideal) m g
    exact Cert.TailFinal.final m _
  · refine (θ_run Cert.ReferenceIdeal.defs _ _).mono (fun _ hq c => ?_) (Cert.ReferenceIdeal.Value.run (F := Ideal) m' g')
    obtain ⟨h0, h1, h2, h3, h4, h5, h6, h7, h8, h9⟩ := h c
    obtain ⟨q, q'⟩ := hq c
    refine ⟨q.trans ((Cert.ReferenceIdeal.Read.val_main_v76_eq (F := Ideal) m' c).trans ?_), q'⟩
    rw [h0, h1, h2, h3, h4, h5, h6, h7, h8, h9]
    funext i
    rw [show i = ValueIdx.ix2 (i 0) (i 1) from Cert.TailRef.ext2 (n0 := 32768) (n1 := 1024) rfl rfl]
    exact Cert.TailRef.v76_apply _ _ _ _ _ _ _ _ _ _ (i 0) (i 1)

/-- The reference's run leaves its arguments and every counter at zero. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩) (Cert.ReferenceIdeal.Value.run (F := Ideal) m g)

/-- The shape relation the condition on the logits takes. -/
instance pre_facts : Cert.Pre_finite_logits.Facts := ⟨by decide⟩

/-- Where the condition holds every logit is a real number. -/
theorem logits_real (m : (ℓ : Loc Cert.Kernel2Ideal.nD Cert.Kernel2Ideal.τ Cert.Kernel2Ideal.sig) → Buf (Elt Ideal) ℓ)
    (h : Cert.Pre_Kernel2Ideal_finite_logits m) (c : Dev Cert.Kernel2Ideal.nD) (a : Fin 2) (j : Fin 512) :
    ∃ r : ℝ, Cert.InFinal.a4 m c (ix2 a j) = r := by
  have e := congrFun (h c) (ix2 a j)
  change Cert.Pre_finite_logits.fn (F := Ideal) _ _ _ _ (Cert.InFinal.a4 m c) _ = _ at e
  generalize Cert.InFinal.a4 m c = l at e ⊢
  unfold Cert.Pre_finite_logits.fn at e
  pointwise [] at e
  induction hl : l (ix2 a j) using EReal.rec with
  | coe r => exact ⟨r, rfl⟩
  | bot =>
    rw [hl] at e
    simp [Ideal.ofBits, Ideal.ieee, FloatOps.absf] at e
  | top =>
    rw [hl] at e
    simp [Ideal.ofBits, Ideal.ieee, FloatOps.absf] at e

set_option maxHeartbeats 4000000 in
/-- Over the reals the projection kernel's eight arrays and the second reference's are the same, where the logits are finite. -/
theorem algebraic_in : Cert.algebraic_Kernel2Ideal_Reference2Ideal_pre_finite_logits (hKernel2Ideal := Cert.Kernel2Ideal.Gen.facts)
    (hReference2Ideal := Cert.Reference2Ideal.Gen.facts) := by
  intro m g m' g' hp h
  refine ⟨fun c => Cert.InFinal.G6 m c, fun c => Cert.InFinal.G7 m c, fun c => Cert.InFinal.G8 m c, fun c => Cert.InFinal.G9 m c, fun c => Cert.InFinal.G10 m c, fun c => Cert.InFinal.G11 m c, fun c => Cert.InFinal.G12 m c, fun c => Cert.InFinal.G13 m c, ?_, ?_⟩
  · refine θ_run_mono (θ_run_and (Cert.Kernel2Ideal.Gen.run_main (F := Ideal) m g) (Cert.Kernel2Ideal.Gen.unchanged (F := Ideal) m g)) ?_
    intro r hr c
    have hf := logits_real m hp c
    exact ⟨((hr.1 c).1 6).trans (Cert.InFinal.final6 m c), ((hr.1 c).1 7).trans (Cert.InFinal.final7 m c hf), ((hr.1 c).1 8).trans (Cert.InFinal.final8 m c), ((hr.1 c).1 9).trans (Cert.InFinal.final9 m c), ((hr.1 c).1 10).trans (Cert.InFinal.final10 m c), ((hr.1 c).1 11).trans (Cert.InFinal.final11 m c), ((hr.1 c).1 12).trans (Cert.InFinal.final12 m c), ((hr.1 c).1 13).trans (Cert.InFinal.final13 m c), hr.2 c⟩
  · refine (θ_run Cert.Reference2Ideal.defs _ _).mono (fun _ hq c => ?_) (Cert.Reference2Ideal.Value.run (F := Ideal) m' g')
    obtain ⟨h0, h1, h2, h3, h4⟩ := h c
    obtain ⟨q0, q1, q2, q3, q4, q5, q6, q7, q'⟩ := hq c
    refine ⟨q0.trans ?_, q1.trans ?_, q2.trans ?_, q3.trans ?_, q4.trans ?_, q5.trans ?_, q6.trans ?_, q7.trans ?_, q'⟩
    · refine (Cert.Reference2Ideal.Read.val_main_v63_eq (F := Ideal) _ _ _ _).trans ?_
      rw [h0, h1, h2, h3]
      funext i
      rw [show i = ix2 (i 0) (i 1) from Cert.TailRef.ext2 (n0 := 32768) (n1 := 512) rfl rfl]
      exact Cert.InRef.v63_apply _ _ _ _ (i 0) (i 1)
    · refine (Cert.Reference2Ideal.Read.val_main_v66_eq (F := Ideal) m' c).trans ?_
      rw [h0, h1, h2, h3, h4]
      funext i
      rw [show i = ix2 (i 0) (i 1) from Cert.TailRef.ext2 (n0 := 32768) (n1 := 512) rfl rfl]
      exact Cert.InRef.v66_apply _ _ _ _ _ (i 0) (i 1)
    · refine (Cert.Reference2Ideal.Read.val_main_v67_eq (F := Ideal) m' c).trans ?_
      rw [h0, h1, h2, h3, h4]
      funext i
      rw [show i = ix2 (i 0) (i 1) from Cert.TailRef.ext2 (n0 := 32768) (n1 := 512) rfl rfl]
      exact Cert.InRef.v67_apply _ _ _ _ _ (i 0) (i 1)
    · refine (Cert.Reference2Ideal.Read.val_main_v68_eq (F := Ideal) _ _ _ _).trans ?_
      rw [h0, h1, h2, h3]
      funext i
      rw [show i = ix2 (i 0) (i 1) from Cert.TailRef.ext2 (n0 := 32768) (n1 := 512) rfl rfl]
      exact Cert.InRef.v68_apply _ _ _ _ (i 0) (i 1)
    · refine (Cert.Reference2Ideal.Read.val_main_v70_eq (F := Ideal) _ _ _ _).trans ?_
      rw [h0, h1, h2, h3]
      funext i
      rw [show i = ix2 (i 0) (i 1) from Cert.TailRef.ext2 (n0 := 32768) (n1 := 512) rfl rfl]
      exact Cert.InRef.v70_apply _ _ _ _ (i 0) (i 1)
    · refine (Cert.Reference2Ideal.Read.val_main_v72_eq (F := Ideal) _ _ _ _).trans ?_
      rw [h0, h1, h2, h3]
      funext i
      rw [show i = ix2 (i 0) (i 1) from Cert.TailRef.ext2 (n0 := 32768) (n1 := 512) rfl rfl]
      exact Cert.InRef.v72_apply _ _ _ _ (i 0) (i 1)
    · refine (Cert.Reference2Ideal.Read.val_main_v36_eq (F := Ideal) _ _ _ _).trans ?_
      rw [h0, h1, h2, h3]
      funext i
      rw [show i = ix2 (i 0) (i 1) from Cert.TailRef.ext2 (n0 := 32768) (n1 := 512) rfl rfl]
      exact Cert.InRef.v36_apply _ _ _ _ (i 0) (i 1)
    · refine (Cert.Reference2Ideal.Read.val_main_v37_eq (F := Ideal) _ _ _ _).trans ?_
      rw [h0, h1, h2, h3]
      funext i
      rw [show i = ix2 (i 0) (i 1) from Cert.TailRef.ext2 (n0 := 32768) (n1 := 512) rfl rfl]
      exact Cert.InRef.v37_apply _ _ _ _ (i 0) (i 1)

/-- Over the reals the recurrence kernel's array and the third reference's are one array, where the operands are finite. -/
theorem algebraic_hg : Cert.algebraic_Kernel3Ideal_Reference3Ideal_pre_finite_tokens (hKernel3Ideal := Cert.Kernel3Ideal.Gen.facts)
    (hReference3Ideal := Cert.Reference3Ideal.Gen.facts) := by
  intro m g m' g' hp h
  refine ⟨fun c => Cert.HgKer.G m c (Cert.HgPre.real (Cert.HgPre.a0 m c)) (Cert.HgPre.real (Cert.HgPre.a1 m c)) (Cert.HgPre.real (Cert.HgPre.a2 m c))
    (Cert.HgPre.real (Cert.HgPre.a3 m c)), ?_, ?_⟩
  · refine θ_run_mono (θ_run_and (Cert.Kernel3Ideal.Gen.run_main (F := Ideal) m g) (Cert.Kernel3Ideal.Gen.unchanged (F := Ideal) m g)) ?_
    intro r hr c
    exact ⟨((hr.1 c).1 7).trans (Cert.HgKer.final (Cert.HgPre.holds m c hp)), hr.2 c⟩
  · refine (θ_run Cert.Reference3Ideal.defs _ _).mono (fun _ hq c => ?_) (Cert.Reference3Ideal.Value.run (F := Ideal) m' g')
    obtain ⟨h0, h1, h2, h3, h4, h5⟩ := h c
    obtain ⟨q, q'⟩ := hq c
    refine ⟨q.trans ((Cert.Reference3Ideal.Read.val_main_v51_eq (F := Ideal) m' c).trans ?_), q'⟩
    rw [h0, h1, h2, h3, h4, h5]
    have R := Cert.HgPre.holds m c hp
    funext i
    rw [show i = ValueIdx.ix3 (i 0) (i 1) (i 2) from Cert.HgTab.ext3 (n0 := 8) (n1 := 4096) (n2 := 512) rfl rfl rfl]
    exact Cert.HgRef.v51_apply _ _ R.q R.k R.f R.v (i 0) (i 1) (i 2)

/-- Over the reals the modulation kernel's array and the fourth reference's are one array. -/
theorem algebraic_mod : Cert.algebraic_Kernel4Ideal_Reference4Ideal (hKernel4Ideal := Cert.Kernel4Ideal.Gen.facts)
    (hReference4Ideal := Cert.Reference4Ideal.Gen.facts) := by
  intro m g m' g' _ h
  refine ⟨fun c => Cert.ModFinal.G m c, ?_, ?_⟩
  · run_from Cert.Kernel4Ideal.Gen.run_main (F := Ideal) m g
    exact Cert.ModFinal.final m _
  · refine (θ_run Cert.Reference4Ideal.defs _ _).mono (fun _ hq c => ?_) (Cert.Reference4Ideal.Value.run (F := Ideal) m' g')
    obtain ⟨h0, h1, h2⟩ := h c
    obtain ⟨q, q'⟩ := hq c
    refine ⟨q.trans ((Cert.Reference4Ideal.Read.val_main_v6_eq (F := Ideal) _ _ _).trans ?_), q'⟩
    rw [h0, h1, h2]
    funext i
    rw [show i = ix2 (i 0) (i 1) from Cert.TailRef.ext2 (n0 := 8) (n1 := 6144) rfl rfl]
    exact Cert.ModFinal.ref_apply _ _ _ (i 0) (i 1)

/-- The second reference's run leaves its arguments and every counter at zero. -/
theorem frame_reference2 : Cert.quiescent_Reference2Ideal (hReference2Ideal := Cert.Reference2Ideal.Gen.facts) := by
  intro m g _
  exact (θ_run Cert.Reference2Ideal.defs _ _).mono (fun r h => ⟨fun c => (h c).2.2.2.2.2.2.2.2, sem_eq_zero_of_no_sems (by decide) r.2⟩)
    (Cert.Reference2Ideal.Value.run (F := Ideal) m g)

/-- The third reference's run leaves its arguments and every counter at zero. -/
theorem frame_reference3 : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

/-- The fourth reference's run leaves its arguments and every counter at zero. -/
theorem frame_reference4 : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩)
    (Cert.Reference4Ideal.Value.run (F := Ideal) m g)

/-- Every claim of this certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  pre_facts, Cert.HgPre.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ, frame_reference4,
  trivial, algebraic_tail, trivial, algebraic_in, trivial, algebraic_hg, trivial, algebraic_mod⟩

end Cert.Proof

end
